-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_no_tie [hPre_finite_and_no_tie : Cert.Pre_finite_and_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite_and_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_no_tie [hPre_finite_and_no_tie : Cert.Pre_finite_and_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite_and_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_no_tie [hKernelIdeal : Cert.KernelIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_no_tie [hReferenceIdeal : Cert.ReferenceIdeal.Facts] [hPre_finite_and_no_tie : Cert.Pre_finite_and_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_and_no_tie [hKernelIdeal : Cert.KernelIdeal.Facts] [hReferenceIdeal : Cert.ReferenceIdeal.Facts] [hPre_finite_and_no_tie : Cert.Pre_finite_and_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_and_no_tie : Cert.Pre_finite_and_no_tie.Facts),
    quiescent_Kernel (hKernel := hKernel)
    ∧ quiescent_KernelIdeal (hKernelIdeal := hKernelIdeal)
    ∧ quiescent_KernelIdeal_pre_finite_and_no_tie (hKernelIdeal := hKernelIdeal) (hPre_finite_and_no_tie := hPre_finite_and_no_tie)
    ∧ quiescent_ReferenceIdeal (hReferenceIdeal := hReferenceIdeal)
    ∧ quiescent_ReferenceIdeal_pre_finite_and_no_tie (hReferenceIdeal := hReferenceIdeal) (hPre_finite_and_no_tie := hPre_finite_and_no_tie)
    ∧ preserves_Kernel_KernelIdeal
    ∧ algebraic_KernelIdeal_ReferenceIdeal_pre_finite_and_no_tie (hKernelIdeal := hKernelIdeal) (hReferenceIdeal := hReferenceIdeal) (hPre_finite_and_no_tie := hPre_finite_and_no_tie)
-- ==== Pre_finite_and_no_tie.lean ====
abbrev S16x3x4096 : Shape := ⟨3, ![16, 3, 4096]⟩
abbrev S64x6 : Shape := ⟨2, ![64, 6]⟩
abbrev S64 : Shape := ⟨1, ![64]⟩
abbrev S64x64 : Shape := ⟨2, ![64, 64]⟩
abbrev S16x4096x3 : Shape := ⟨3, ![16, 4096, 3]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S16x4096x4096 : Shape := ⟨3, ![16, 4096, 4096]⟩
abbrev S16x4096x21 : Shape := ⟨3, ![16, 4096, 21]⟩
abbrev S16x4096x20 : Shape := ⟨3, ![16, 4096, 20]⟩

class Facts : Prop where
  transposes_S16x3x4096_S16x4096x3_0_2_1 : S16x3x4096.Transposes [0, 2, 1] S16x4096x3
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  sliceFits_S16x4096x4096_S16x4096x21 : S16x4096x4096.Slices (fun _ => 0) S16x4096x21
  slices_S16x4096x21_S16x4096x20_0_0_0 : S16x4096x21.Slices ![0, 0, 0] S16x4096x20
  slices_S16x4096x21_S16x4096x20_0_0_1 : S16x4096x21.Slices ![0, 0, 1] S16x4096x20
  bcast_S_S16x3x4096 : S_.BroadcastsInDim S16x3x4096 (![] : Fin 0 → Fin S16x3x4096.rank)
  bcast_S_S64x6 : S_.BroadcastsInDim S64x6 (![] : Fin 0 → Fin S64x6.rank)
  bcast_S_S64 : S_.BroadcastsInDim S64 (![] : Fin 0 → Fin S64.rank)
  bcast_S_S64x64 : S_.BroadcastsInDim S64x64 (![] : Fin 0 → Fin S64x64.rank)
  dot_S16x4096x3_S16x4096x3_S16x4096x4096_2_2_1_1_0_0_wf : DotDims.WF S16x4096x3 S16x4096x3 S16x4096x4096 [2] [2] [1] [1] [0] [0]

variable [Facts]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf
def fn_part1 {F : FTy → Type} [FloatOps F] (main_arg1 : FVec F S64x6 .f32) (main_arg2 : FVec F S64 .f32) (main_arg3 : FVec F S64 .f32) (main_arg4 : FVec F S64x64 .f32) (main_arg5 : FVec F S64 .f32) (main_v15 : IVec S16x4096x20 1) (main_v18 : IVec S16x3x4096 1) : IVec S16x4096x20 1 × IVec S16x3x4096 1 × IVec S64x6 1 × IVec S64 1 × IVec S64 1 × IVec S64x64 1 × IVec S64 1 :=
  let main_v19 : FVec F S64x6 .f32 := Host.absf main_arg1
  let main_cst_2 : FVec F S_ .f32 := constant S_ .f32 0x7F800000#32
  let main_v20 : FVec F S64x6 .f32 := broadcastInDim S64x6 ![] bcast_S_S64x6 main_cst_2
  let main_v21 : IVec S64x6 1 := cmpf .olt main_v19 main_v20
  let main_v22 : FVec F S64 .f32 := Host.absf main_arg2
  let main_cst_3 : FVec F S_ .f32 := constant S_ .f32 0x7F800000#32
  let main_v23 : FVec F S64 .f32 := broadcastInDim S64 ![] bcast_S_S64 main_cst_3
  let main_v24 : IVec S64 1 := cmpf .olt main_v22 main_v23
  let main_v25 : FVec F S64 .f32 := Host.absf main_arg3
  let main_cst_4 : FVec F S_ .f32 := constant S_ .f32 0x7F800000#32
  let main_v26 : FVec F S64 .f32 := broadcastInDim S64 ![] bcast_S_S64 main_cst_4
  let main_v27 : IVec S64 1 := cmpf .olt main_v25 main_v26
  let main_v28 : FVec F S64x64 .f32 := Host.absf main_arg4
  let main_cst_5 : FVec F S_ .f32 := constant S_ .f32 0x7F800000#32
  let main_v29 : FVec F S64x64 .f32 := broadcastInDim S64x64 ![] bcast_S_S64x64 main_cst_5
  let main_v30 : IVec S64x64 1 := cmpf .olt main_v28 main_v29
  let main_v31 : FVec F S64 .f32 := Host.absf main_arg5
  let main_cst_6 : FVec F S_ .f32 := constant S_ .f32 0x7F800000#32
  let main_v32 : FVec F S64 .f32 := broadcastInDim S64 ![] bcast_S_S64 main_cst_6
  let main_v33 : IVec S64 1 := cmpf .olt main_v31 main_v32
  (main_v15, main_v18, main_v21, main_v24, main_v27, main_v30, main_v33)

def fn {F : FTy → Type} [FloatOps F] (main_arg0 : FVec F S16x3x4096 .f32) (main_arg1 : FVec F S64x6 .f32) (main_arg2 : FVec F S64 .f32) (main_arg3 : FVec F S64 .f32) (main_arg4 : FVec F S64x64 .f32) (main_arg5 : FVec F S64 .f32) (main_arg6 : FVec F S64 .f32) : IVec S16x4096x20 1 × IVec S16x3x4096 1 × IVec S64x6 1 × IVec S64 1 × IVec S64 1 × IVec S64x64 1 × IVec S64 1 :=
  let main_v0 : FVec F S16x4096x3 .f32 := (transpose S16x4096x3 [0, 2, 1] · transposes_S16x3x4096_S16x4096x3_0_2_1) main_arg0
  let main_v1 : FVec F S16x4096x3 .f32 := mulf main_v0 main_v0
  let main_cst : FVec F S_ .f32 := constant S_ .f32 0x00000000#32
  let main_v2 : FVec F S16x4096 .f32 := (fun x v => Host.reduceAdd x v reducesTo_S16x4096x3_S16x4096_d2 h_S_) main_v1 main_cst
  let main_v3 : FVec F S16x4096x1 .f32 := broadcastInDim S16x4096x1 ![0, 1] bcast_S16x4096_S16x4096x1_0_1 main_v2
  let main_v4 : FVec F S16x1x4096 .f32 := broadcastInDim S16x1x4096 ![0, 2] bcast_S16x4096_S16x1x4096_0_2 main_v2
  let main_v5 : FVec F S16x4096x4096 .f32 := broadcastInDim S16x4096x4096 ![0, 1, 2] bcast_S16x4096x1_S16x4096x4096_0_1_2 main_v3
  let main_v6 : FVec F S16x4096x4096 .f32 := broadcastInDim S16x4096x4096 ![0, 1, 2] bcast_S16x1x4096_S16x4096x4096_0_1_2 main_v4
  let main_v7 : FVec F S16x4096x4096 .f32 := addf main_v5 main_v6
  let main_v8 : FVec F S16x4096x4096 .f32 := (fun l r => Host.dotGeneral dot_S16x4096x3_S16x4096x3_S16x4096x4096_2_2_1_1_0_0 none l r) main_v0 main_v0
  let main_cst_0 : FVec F S_ .f32 := constant S_ .f32 0x40000000#32
  let main_v9 : FVec F S16x4096x4096 .f32 := broadcastInDim S16x4096x4096 ![] bcast_S_S16x4096x4096 main_cst_0
  let main_v10 : FVec F S16x4096x4096 .f32 := mulf main_v9 main_v8
  let main_v11 : FVec F S16x4096x4096 .f32 := subf main_v7 main_v10
  let main_v12 : FVec F S16x4096x4096 .f32 := Host.negf main_v11
  let main_values : FVec F S16x4096x21 .f32 := (fun x => (Host.topK S16x4096x21 2 (FloatOps.cmpfTotal .gt) x sliceFits_S16x4096x4096_S16x4096x21).1) main_v12
  let main_indices : IVec S16x4096x21 32 := (fun x => (Host.topK S16x4096x21 2 (FloatOps.cmpfTotal .gt) x sliceFits_S16x4096x4096_S16x4096x21).2) main_v12
  let main_v13 : FVec F S16x4096x20 .f32 := (extractStridedSlice S16x4096x20 ![0, 0, 0] · slices_S16x4096x21_S16x4096x20_0_0_0) main_values
  let main_v14 : FVec F S16x4096x20 .f32 := (extractStridedSlice S16x4096x20 ![0, 0, 1] · slices_S16x4096x21_S16x4096x20_0_0_1) main_values
  let main_v15 : IVec S16x4096x20 1 := cmpf .ogt main_v13 main_v14
  let main_v16 : FVec F S16x3x4096 .f32 := Host.absf main_arg0
  let main_cst_1 : FVec F S_ .f32 := constant S_ .f32 0x7F800000#32
  let main_v17 : FVec F S16x3x4096 .f32 := broadcastInDim S16x3x4096 ![] bcast_S_S16x3x4096 main_cst_1
  let main_v18 : IVec S16x3x4096 1 := cmpf .olt main_v16 main_v17
  fn_part1 (F := F) main_arg1 main_arg2 main_arg3 main_arg4 main_arg5 main_v15 main_v18
-- ==== Kernel.lean ====
abbrev S16x3x4096 : Shape := ⟨3, ![16, 3, 4096]⟩
abbrev S64x6 : Shape := ⟨2, ![64, 6]⟩
abbrev S64 : Shape := ⟨1, ![64]⟩
abbrev S64x64 : Shape := ⟨2, ![64, 64]⟩
abbrev S64x3 : Shape := ⟨2, ![64, 3]⟩
abbrev S16x20x3x4096 : Shape := ⟨4, ![16, 20, 3, 4096]⟩
abbrev S16x16x64x2 : Shape := ⟨4, ![16, 16, 64, 2]⟩
abbrev S1x3x4096 : Shape := ⟨3, ![1, 3, 4096]⟩
abbrev S1x3x256 : Shape := ⟨3, ![1, 3, 256]⟩
abbrev S1x20x3x256 : Shape := ⟨4, ![1, 20, 3, 256]⟩
abbrev S1x1x64x2 : Shape := ⟨4, ![1, 1, 64, 2]⟩
abbrev S256x4096 : Shape := ⟨2, ![256, 4096]⟩
abbrev S64x256 : Shape := ⟨2, ![64, 256]⟩
abbrev S3x4096 : Shape := ⟨2, ![3, 4096]⟩
abbrev S3x256 : Shape := ⟨2, ![3, 256]⟩
abbrev S4096 : Shape := ⟨1, ![4096]⟩
abbrev S1x4096 : Shape := ⟨2, ![1, 4096]⟩
abbrev S256 : Shape := ⟨1, ![256]⟩
abbrev S256x1 : Shape := ⟨2, ![256, 1]⟩
abbrev S4x4096 : Shape := ⟨2, ![4, 4096]⟩
abbrev S4x256 : Shape := ⟨2, ![4, 256]⟩
abbrev S1x256 : Shape := ⟨2, ![1, 256]⟩
abbrev S1x1x3x256 : Shape := ⟨4, ![1, 1, 3, 256]⟩
abbrev S64x1 : Shape := ⟨2, ![64, 1]⟩
abbrev S64x2 : Shape := ⟨2, ![64, 2]⟩
abbrev S_ : Shape := ⟨0, ![]⟩
abbrev S16x64x4096 : Shape := ⟨3, ![16, 64, 4096]⟩
abbrev S16x4x64x2 : Shape := ⟨4, ![16, 4, 64, 2]⟩
abbrev S1x20x3x1024 : Shape := ⟨4, ![1, 20, 3, 1024]⟩
abbrev S1x3x1024 : Shape := ⟨3, ![1, 3, 1024]⟩
abbrev S1x64x1024 : Shape := ⟨3, ![1, 64, 1024]⟩
abbrev S64x1024 : Shape := ⟨2, ![64, 1024]⟩
abbrev S3x1024 : Shape := ⟨2, ![3, 1024]⟩
abbrev S1x1x3x1024 : Shape := ⟨4, ![1, 1, 3, 1024]⟩

abbrev nBuf : Space → Nat
  | .hbm => 72
  | .vmem => 38
  | .smem => 0
  | _ => 0

abbrev bufTy : (tb : Table) → Fin (tcTables nBuf tb) → BufTy
  | .hbm, ⟨0, _⟩ => ⟨S16x3x4096, .f32⟩
  | .hbm, ⟨1, _⟩ => ⟨S64x6, .f32⟩
  | .hbm, ⟨2, _⟩ => ⟨S64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64x3, .f32⟩
  | .hbm, ⟨8, _⟩ => ⟨S64x3, .f32⟩
  | .hbm, ⟨9, _⟩ => ⟨S64x3, .f32⟩
  | .hbm, ⟨10, _⟩ => ⟨S16x20x3x4096, .f32⟩
  | .hbm, ⟨11, _⟩ => ⟨S16x16x64x2, .f32⟩
  | .hbm, ⟨12, _⟩ => ⟨S_, .f32⟩
  | .hbm, ⟨13, _⟩ => ⟨S64x2, .f32⟩
  | .hbm, ⟨14, _⟩ => ⟨S64x1, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64x1, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64x1, .f32⟩
  | .hbm, ⟨40, _⟩ => ⟨S16x64x4096, .f32⟩
  | .hbm, ⟨41, _⟩ => ⟨S16x64x4096, .f32⟩
  | .hbm, ⟨42, _⟩ => ⟨S16x4x64x2, .f32⟩
  | .hbm, ⟨43, _⟩ => ⟨S_, .f32⟩
  | .hbm, ⟨44, _⟩ => ⟨S64x2, .f32⟩
  | .hbm, ⟨45, _⟩ => ⟨S64x1, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64x1, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S64x1, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S64x1, .f32⟩
  | .hbm, ⟨71, _⟩ => ⟨S16x64x4096, .f32⟩
  | .local _ .vmem, ⟨0, _⟩ => ⟨S1x3x4096, .f32⟩
  | .local _ .vmem, ⟨1, _⟩ => ⟨S1x3x4096, .f32⟩
  | .local _ .vmem, ⟨2, _⟩ => ⟨S1x3x256, .f32⟩
  | .local _ .vmem, ⟨3, _⟩ => ⟨S1x3x256, .f32⟩
  | .local _ .vmem, ⟨4, _⟩ => ⟨S64x3, .f32⟩
  | .local _ .vmem, ⟨5, _⟩ => ⟨S64x3, .f32⟩
  | .local _ .vmem, ⟨6, _⟩ => ⟨S1x20x3x256, .f32⟩
  | .local _ .vmem, ⟨7, _⟩ => ⟨S1x20x3x256, .f32⟩
  | .local _ .vmem, ⟨8, _⟩ => ⟨S1x1x64x2, .f32⟩
  | .local _ .vmem, ⟨9, _⟩ => ⟨S1x1x64x2, .f32⟩
  | .local _ .vmem, ⟨10, _⟩ => ⟨S256x4096, .f32⟩
  | .local _ .vmem, ⟨11, _⟩ => ⟨S64x256, .f32⟩
  | .local _ .vmem, ⟨12, _⟩ => ⟨S64x256, .f32⟩
  | .local _ .vmem, ⟨13, _⟩ => ⟨S1x20x3x1024, .f32⟩
  | .local _ .vmem, ⟨14, _⟩ => ⟨S1x20x3x1024, .f32⟩
  | .local _ .vmem, ⟨15, _⟩ => ⟨S1x3x1024, .f32⟩
  | .local _ .vmem, ⟨16, _⟩ => ⟨S1x3x1024, .f32⟩
  | .local _ .vmem, ⟨17, _⟩ => ⟨S64x3, .f32⟩
  | .local _ .vmem, ⟨18, _⟩ => ⟨S64x3, .f32⟩
  | .local _ .vmem, ⟨19, _⟩ => ⟨S64x64, .f32⟩
  | .local _ .vmem, ⟨20, _⟩ => ⟨S64x1, .f32⟩
  | .local _ .vmem, ⟨21, _⟩ => ⟨S64x1, .f32⟩
  | .local _ .vmem, ⟨22, _⟩ => ⟨S1x64x1024, .f32⟩
  | .local _ .vmem, ⟨23, _⟩ => ⟨S1x64x1024, .f32⟩
  | .local _ .vmem, ⟨24, _⟩ => ⟨S1x64x1024, .f32⟩
  | .local _ .vmem, ⟨25, _⟩ => ⟨S1x64x1024, .f32⟩
  | .local _ .vmem, ⟨26, _⟩ => ⟨S1x1x64x2, .f32⟩
  | .local _ .vmem, ⟨27, _⟩ => ⟨S1x1x64x2, .f32⟩
  | .local _ .vmem, ⟨28, _⟩ => ⟨S64x1024, .f32⟩
  | .local _ .vmem, ⟨29, _⟩ => ⟨S64x1024, .f32⟩
  | .local _ .vmem, ⟨30, _⟩ => ⟨S1x64x1024, .f32⟩
  | .local _ .vmem, ⟨31, _⟩ => ⟨S1x64x1024, .f32⟩
  | .local _ .vmem, ⟨32, _⟩ => ⟨S1x64x1024, .f32⟩
  | .local _ .vmem, ⟨33, _⟩ => ⟨S1x64x1024, .f32⟩
  | .local _ .vmem, ⟨34, _⟩ => ⟨S64x1, .f32⟩
  | .local _ .vmem, ⟨35, _⟩ => ⟨S64x1, .f32⟩
  | .local _ .vmem, ⟨36, _⟩ => ⟨S1x64x1024, .f32⟩
  | .local _ .vmem, ⟨37, _⟩ => ⟨S1x64x1024, .f32⟩
  | _, _ => ⟨S16x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_scratch0 : Ref sig .tc := ⟨.vmem, 28, rfl⟩
abbrev cc1_scratch1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg4_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem4_1 : DmaSem sig := 32

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32 : BitVec 32 := 0#32
  let c20_i32 : BitVec 32 := 20#32
  let v36 : BitVec 32 := Scalar.addi c0_i32 c20_i32
  let c1_i32 : BitVec 32 := 1#32
  ⟨c0_i32, v36, c1_i32⟩
def k0_off1 (k0_t1 : Fin k0_t1_loop.trips) : Fin 4 → Nat :=
  let c0_37 : Index := 0#32
  let c0_i32 : BitVec 32 := 0#32
  let c1_i32 : BitVec 32 := 1#32
  let arg11 : BitVec 32 := Scf.iv c0_i32 c1_i32 k0_t1
  let v62 : Index := Scalar.indexCast arg11
  let c0_38 : Index := 0#32
  let c0_39 : Index := 0#32
  ![0, v62.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x20x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![16, 4], ![false, false]⟩

@[reducible] def k1_t1_loop : Scf.Loop 32 :=
  let c0_i32 : BitVec 32 := 0#32
  let c20_i32 : BitVec 32 := 20#32
  let v28 : BitVec 32 := Scalar.addi c0_i32 c20_i32
  let c1_i32 : BitVec 32 := 1#32
  ⟨c0_i32, v28, c1_i32⟩
def k1_off1 (k1_t1 : Fin k1_t1_loop.trips) : Fin 4 → Nat :=
  let c0_37 : Index := 0#32
  let c0_i32 : BitVec 32 := 0#32
  let c1_i32 : BitVec 32 := 1#32
  let arg14 : BitVec 32 := Scf.iv c0_i32 c1_i32 k1_t1
  let v39 : Index := Scalar.indexCast arg14
  let c0_38 : Index := 0#32
  let c0_39 : Index := 0#32
  ![0, v39.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x20x3x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x64x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x64x2 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![16, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x64x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x64x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S16x3x4096 : Shape := ⟨3, ![16, 3, 4096]⟩
abbrev S64x6 : Shape := ⟨2, ![64, 6]⟩
abbrev S64 : Shape := ⟨1, ![64]⟩
abbrev S64x64 : Shape := ⟨2, ![64, 64]⟩
abbrev S16x4096x3 : Shape := ⟨3, ![16, 4096, 3]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S16x4096x4096 : Shape := ⟨3, ![16, 4096, 4096]⟩
abbrev S16x4096x20 : Shape := ⟨3, ![16, 4096, 20]⟩
abbrev S16 : Shape := ⟨1, ![16]⟩
abbrev S16x1x1 : Shape := ⟨3, ![16, 1, 1]⟩
abbrev S16x4096x20x1 : Shape := ⟨4, ![16, 4096, 20, 1]⟩
abbrev S16x4096x20x2 : Shape := ⟨4, ![16, 4096, 20, 2]⟩
abbrev S16x4096x20x3 : Shape := ⟨4, ![16, 4096, 20, 3]⟩
abbrev S16x4096x1x3 : Shape := ⟨4, ![16, 4096, 1, 3]⟩
abbrev S16x4096x20x6 : Shape := ⟨4, ![16, 4096, 20, 6]⟩
abbrev S16x6x4096x20 : Shape := ⟨4, ![16, 6, 4096, 20]⟩
abbrev S16x4096x20x64 : Shape := ⟨4, ![16, 4096, 20, 64]⟩
abbrev S16x64x4096x20 : Shape := ⟨4, ![16, 64, 4096, 20]⟩
abbrev S1x64x1x1 : Shape := ⟨4, ![1, 64, 1, 1]⟩
abbrev S16x64x4096 : Shape := ⟨3, ![16, 64, 4096]⟩

abbrev nBuf : Space → Nat
  | .hbm => 160
  | .vmem => 0
  | .smem => 0
  | _ => 0

abbrev hbmTy0_0 (i : Nat) : BufTy := match i % 128 with
  | 0 => ⟨S16x3x4096, .f32⟩
  | 1 => ⟨S64x6, .f32⟩
  | 2 => ⟨S64, .f32⟩
  | 3 => ⟨S64, .f32⟩
  | 4 => ⟨S64x64, .f32⟩
  | 5 => ⟨S64, .f32⟩
  | 6 => ⟨S64, .f32⟩
  | 7 => ⟨S16x4096x3, .f32⟩
  | 8 => ⟨S16x4096x3, .f32⟩
  | 9 => ⟨S_, .f32⟩
  | 10 => ⟨S16x4096, .f32⟩
  | 11 => ⟨S16x4096x1, .f32⟩
  | 12 => ⟨S16x1x4096, .f32⟩
  | 13 => ⟨S16x4096x4096, .f32⟩
  | 14 => ⟨S16x4096x4096, .f32⟩
  | 15 => ⟨S16x4096x4096, .f32⟩
  | 16 => ⟨S16x4096x4096, .f32⟩
  | 17 => ⟨S_, .f32⟩
  | 18 => ⟨S16x4096x4096, .f32⟩
  | 19 => ⟨S16x4096x4096, .f32⟩
  | 20 => ⟨S16x4096x4096, .f32⟩
  | 21 => ⟨S16x4096x4096, .f32⟩
  | 22 => ⟨S16x4096x20, .f32⟩
  | 23 => ⟨S16x4096x20, .i32⟩
  | 24 => ⟨S16, .i32⟩
  | 25 => ⟨S16x1x1, .i32⟩
  | 26 => ⟨S_, .i32⟩
  | 27 => ⟨S16x1x1, .i32⟩
  | 28 => ⟨S16x1x1, .i1⟩
  | 29 => ⟨S_, .i32⟩
  | 30 => ⟨S16x1x1, .i32⟩
  | 31 => ⟨S16x1x1, .i32⟩
  | 32 => ⟨S16x1x1, .i32⟩
  | 33 => ⟨S_, .i32⟩
  | 34 => ⟨S16x4096x20, .i32⟩
  | 35 => ⟨S16x4096x20, .i1⟩
  | 36 => ⟨S_, .i32⟩
  | 37 => ⟨S16x4096x20, .i32⟩
  | 38 => ⟨S16x4096x20, .i32⟩
  | 39 => ⟨S16x4096x20, .i32⟩
  | 40 => ⟨S16x4096x20, .i32⟩
  | 41 => ⟨S16x4096x20x1, .i32⟩
  | 42 => ⟨S16x4096x20x1, .i32⟩
  | 43 => ⟨S16x4096x20x2, .i32⟩
  | 44 => ⟨S16x4096x20x3, .f32⟩
  | 45 => ⟨S16x4096x1x3, .f32⟩
  | 46 => ⟨S16x4096x20x3, .f32⟩
  | 47 => ⟨S16x4096x20x3, .f32⟩
  | 48 => ⟨S16x4096x1x3, .f32⟩
  | 49 => ⟨S16x4096x20x3, .f32⟩
  | 50 => ⟨S16x4096x20x6, .f32⟩
  | 51 => ⟨S16x6x4096x20, .f32⟩
  | 52 => ⟨S16x4096x20x64, .f32⟩
  | 53 => ⟨S16x64x4096x20, .f32⟩
  | 54 => ⟨S_, .f32⟩
  | 55 => ⟨S64, .f32⟩
  | 56 => ⟨S1x64x1x1, .f32⟩
  | 57 => ⟨S_, .f32⟩
  | 58 => ⟨S1x64x1x1, .f32⟩
  | 59 => ⟨S1x64x1x1, .f32⟩
  | 60 => ⟨S_, .i32⟩
  | 61 => ⟨S_, .f32⟩
  | 62 => ⟨S64, .f32⟩
  | 63 => ⟨S1x64x1x1, .f32⟩
  | 64 => ⟨S_, .f32⟩
  | 65 => ⟨S1x64x1x1, .f32⟩
  | 66 => ⟨S1x64x1x1, .f32⟩
  | 67 => ⟨S16x64x4096x20, .f32⟩
  | 68 => ⟨S16x64x4096x20, .f32⟩
  | 69 => ⟨S16x64x4096x20, .f32⟩
  | 70 => ⟨S_, .f32⟩
  | 71 => ⟨S_, .f32⟩
  | 72 => ⟨S_, .f32⟩
  | 73 => ⟨S_, .f32⟩
  | 74 => ⟨S64, .f32⟩
  | 75 => ⟨S1x64x1x1, .f32⟩
  | 76 => ⟨S1x64x1x1, .f32⟩
  | 77 => ⟨S1x64x1x1, .f32⟩
  | 78 => ⟨S_, .f32⟩
  | 79 => ⟨S_, .i1⟩
  | 80 => ⟨S_, .f32⟩
  | 81 => ⟨S_, .f32⟩
  | 82 => ⟨S1x64x1x1, .f32⟩
  | 83 => ⟨S1x64x1x1, .f32⟩
  | 84 => ⟨S16x64x4096x20, .f32⟩
  | 85 => ⟨S16x64x4096x20, .f32⟩
  | 86 => ⟨S_, .f32⟩
  | 87 => ⟨S1x64x1x1, .f32⟩
  | 88 => ⟨S1x64x1x1, .f32⟩
  | 89 => ⟨S1x64x1x1, .f32⟩
  | 90 => ⟨S16x64x4096x20, .f32⟩
  | 91 => ⟨S16x64x4096x20, .f32⟩
  | 92 => ⟨S1x64x1x1, .f32⟩
  | 93 => ⟨S16x64x4096x20, .f32⟩
  | 94 => ⟨S16x64x4096x20, .f32⟩
  | 95 => ⟨S1x64x1x1, .f32⟩
  | 96 => ⟨S16x64x4096x20, .f32⟩
  | 97 => ⟨S16x64x4096x20, .f32⟩
  | 98 => ⟨S_, .f32⟩
  | 99 => ⟨S16x64x4096x20, .f32⟩
  | 100 => ⟨S16x64x4096x20, .i1⟩
  | 101 => ⟨S_, .f32⟩
  | 102 => ⟨S16x64x4096x20, .f32⟩
  | 103 => ⟨S16x64x4096x20, .f32⟩
  | 104 => ⟨S16x64x4096x20, .f32⟩
  | 105 => ⟨S16x4096x20x64, .f32⟩
  | 106 => ⟨S16x64x4096x20, .f32⟩
  | 107 => ⟨S_, .f32⟩
  | 108 => ⟨S64, .f32⟩
  | 109 => ⟨S1x64x1x1, .f32⟩
  | 110 => ⟨S_, .f32⟩
  | 111 => ⟨S1x64x1x1, .f32⟩
  | 112 => ⟨S1x64x1x1, .f32⟩
  | 113 => ⟨S_, .i32⟩
  | 114 => ⟨S_, .f32⟩
  | 115 => ⟨S64, .f32⟩
  | 116 => ⟨S1x64x1x1, .f32⟩
  | 117 => ⟨S_, .f32⟩
  | 118 => ⟨S1x64x1x1, .f32⟩
  | 119 => ⟨S1x64x1x1, .f32⟩
  | 120 => ⟨S16x64x4096x20, .f32⟩
  | 121 => ⟨S16x64x4096x20, .f32⟩
  | 122 => ⟨S16x64x4096x20, .f32⟩
  | 123 => ⟨S_, .f32⟩
  | 124 => ⟨S_, .f32⟩
  | 125 => ⟨S_, .f32⟩
  | 126 => ⟨S_, .f32⟩
  | 127 => ⟨S64, .f32⟩
  | _ => ⟨S16x3x4096, .f32⟩

abbrev hbmTy0_1 (i : Nat) : BufTy := match i % 128 with
  | 0 => ⟨S1x64x1x1, .f32⟩
  | 1 => ⟨S1x64x1x1, .f32⟩
  | 2 => ⟨S1x64x1x1, .f32⟩
  | 3 => ⟨S_, .f32⟩
  | 4 => ⟨S_, .i1⟩
  | 5 => ⟨S_, .f32⟩
  | 6 => ⟨S_, .f32⟩
  | 7 => ⟨S1x64x1x1, .f32⟩
  | 8 => ⟨S1x64x1x1, .f32⟩
  | 9 => ⟨S16x64x4096x20, .f32⟩
  | 10 => ⟨S16x64x4096x20, .f32⟩
  | 11 => ⟨S_, .f32⟩
  | 12 => ⟨S1x64x1x1, .f32⟩
  | 13 => ⟨S1x64x1x1, .f32⟩
  | 14 => ⟨S1x64x1x1, .f32⟩
  | 15 => ⟨S16x64x4096x20, .f32⟩
  | 16 => ⟨S16x64x4096x20, .f32⟩
  | 17 => ⟨S1x64x1x1, .f32⟩
  | 18 => ⟨S16x64x4096x20, .f32⟩
  | 19 => ⟨S16x64x4096x20, .f32⟩
  | 20 => ⟨S1x64x1x1, .f32⟩
  | 21 => ⟨S16x64x4096x20, .f32⟩
  | 22 => ⟨S16x64x4096x20, .f32⟩
  | 23 => ⟨S_, .f32⟩
  | 24 => ⟨S16x64x4096x20, .f32⟩
  | 25 => ⟨S16x64x4096x20, .i1⟩
  | 26 => ⟨S_, .f32⟩
  | 27 => ⟨S16x64x4096x20, .f32⟩
  | 28 => ⟨S16x64x4096x20, .f32⟩
  | 29 => ⟨S16x64x4096x20, .f32⟩
  | 30 => ⟨S_, .f32⟩
  | 31 => ⟨S16x64x4096, .f32⟩
  | _ => ⟨S16x3x4096, .f32⟩

abbrev hbmTy (i : Nat) : BufTy := match i / 128 with
  | 0 => hbmTy0_0 i
  | 1 => hbmTy0_1 i
  | _ => ⟨S16x3x4096, .f32⟩

abbrev bufTy : (tb : Table) → Fin (tcTables nBuf tb) → BufTy
  | .hbm, ⟨i, _⟩ => hbmTy i
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_values : Ref sig .tc := ⟨.hbm, 22, rfl⟩
abbrev main_indices : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_c_6 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_cst_1 : Ref sig .tc := ⟨.hbm, 71, rfl⟩
abbrev main_call0_v8 : Ref sig .tc := ⟨.hbm, 72, rfl⟩
abbrev main_call0_cst_2 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_v12 : Ref sig .tc := ⟨.hbm, 77, rfl⟩
abbrev main_call0_cst_3 : Ref sig .tc := ⟨.hbm, 78, rfl⟩
abbrev main_call0_v13 : Ref sig .tc := ⟨.hbm, 79, rfl⟩
abbrev main_call0_cst_4 : Ref sig .tc := ⟨.hbm, 80, rfl⟩
abbrev main_call0_call0_v0 : Ref sig .tc := ⟨.hbm, 81, rfl⟩
abbrev main_call0_call0_v1 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_7 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_8 : Ref sig .tc := ⟨.hbm, 98, rfl⟩
abbrev main_v57 : Ref sig .tc := ⟨.hbm, 99, rfl⟩
abbrev main_v58 : Ref sig .tc := ⟨.hbm, 100, rfl⟩
abbrev main_cst_9 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_10 : Ref sig .tc := ⟨.hbm, 107, rfl⟩
abbrev main_v64 : Ref sig .tc := ⟨.hbm, 108, rfl⟩
abbrev main_v65 : Ref sig .tc := ⟨.hbm, 109, rfl⟩
abbrev main_cst_11 : Ref sig .tc := ⟨.hbm, 110, rfl⟩
abbrev main_v66 : Ref sig .tc := ⟨.hbm, 111, rfl⟩
abbrev main_v67 : Ref sig .tc := ⟨.hbm, 112, rfl⟩
abbrev main_c_12 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_v12 : Ref sig .tc := ⟨.hbm, 130, rfl⟩
abbrev main_call2_cst_3 : Ref sig .tc := ⟨.hbm, 131, rfl⟩
abbrev main_call2_v13 : Ref sig .tc := ⟨.hbm, 132, rfl⟩
abbrev main_call2_cst_4 : Ref sig .tc := ⟨.hbm, 133, rfl⟩
abbrev main_call2_call0_v0 : Ref sig .tc := ⟨.hbm, 134, rfl⟩
abbrev main_call2_call0_v1 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_cst_13 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_14 : Ref sig .tc := ⟨.hbm, 151, rfl⟩
abbrev main_v82 : Ref sig .tc := ⟨.hbm, 152, rfl⟩
abbrev main_v83 : Ref sig .tc := ⟨.hbm, 153, rfl⟩
abbrev main_cst_15 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_cst_16 : Ref sig .tc := ⟨.hbm, 158, rfl⟩
abbrev main_v87 : Ref sig .tc := ⟨.hbm, 159, rfl⟩

abbrev nD : Nat := 1
abbrev τ : Topo := Topo.v7x

variable {F : FTy → Type} [FloatOps F]
-- ==== Proof.Run.lean ====
/- The kernel's run, with every buffer's last contents: the launch of `frame`, its last thread state read whole. -/
module

public import proofs.«01_k».proof.Proof.Gen.Own.KernelIdeal.Frame
public import Idealize.ShloMosaic.Adequacy
public import Idealize.ShloMosaic.Init

@[expose] public section
noncomputable section
namespace Cert.EdgeConv
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions in a metavariable's type
set_option backward.isDefEq.respectTransparency.types false in
/-- Every unscoped buffer ends at the last boundary's contents. -/
theorem run_all : θ_run (defs (F := F)) (onTc (τ := τ) (main (F := F))) ⟨m, fun _ => 0, ρ⟩ (fun r =>
    ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

end Cert.EdgeConv
-- ==== Proof.Near.lean ====
/- Selecting the nearest points one at a time: what `Picks` means, and why taking the minimum of the remaining keys and
   striking it out goes through the points in the order of `Picks`. -/
module

public import Idealize.ShloMosaic.Lib.Pointwise

@[expose] public section
noncomputable section
namespace Cert.EdgeConv
open Idealize.ShloMosaic

/-- `p` lists the points with the twenty smallest keys, smallest first, each key strictly below every key not yet listed. -/
def Picks {n : ℕ} (key : Fin n → ℝ) (p : ℕ → Fin n) : Prop :=
  ∀ k < 20, (∀ j < k, p j ≠ p k) ∧ ∀ m, (∀ j < k, p j ≠ m) → m ≠ p k → key (p k) < key m

open Classical in
/-- The keys after the first `k` listed points are struck out: struck ones are infinite. -/
def left {n : ℕ} (key : Fin n → ℝ) (p : ℕ → Fin n) (k : ℕ) (m : Fin n) : EReal :=
  if ∃ j < k, p j = m then ⊤ else (key m : EReal)

theorem left_zero {n : ℕ} (key : Fin n → ℝ) (p : ℕ → Fin n) (m : Fin n) : left key p 0 m = (key m : EReal) := by
  simp [left]

/-- A remaining key is at most the next listed point's exactly at that point. -/
theorem left_le_iff {n : ℕ} {key : Fin n → ℝ} {p : ℕ → Fin n} (h : Picks key p) {k : ℕ} (hk : k < 20) (m : Fin n) :
    left key p k m ≤ (key (p k) : EReal) ↔ m = p k := by
  obtain ⟨h1, h2⟩ := h k hk
  unfold left
  split
  · rename_i hs
    obtain ⟨j, hj, rfl⟩ := hs
    constructor
    · intro ht
      exact absurd (top_le_iff.mp ht) (EReal.coe_ne_top _)
    · intro he
      exact absurd he (h1 j hj)
  · rename_i hs
    push Not at hs
    constructor
    · intro hle
      by_contra hne
      exact absurd (EReal.coe_le_coe_iff.mp hle) (not_le.mpr (h2 m hs hne))
    · rintro rfl
      exact le_refl _

/-- The next listed point's key is the least remaining one. -/
theorem left_min {n : ℕ} {key : Fin n → ℝ} {p : ℕ → Fin n} (h : Picks key p) {k : ℕ} (hk : k < 20) :
    Finset.univ.fold min (⊤ : EReal) (left key p k) = (key (p k) : EReal) := by
  apply le_antisymm
  · rw [Finset.fold_min_le]
    exact Or.inr ⟨p k, Finset.mem_univ _, (left_le_iff h hk _).mpr rfl⟩
  · rw [Finset.le_fold_min]
    refine ⟨le_top, fun m _ => ?_⟩
    rcases le_total (key (p k) : EReal) (left key p k m) with hle | hle
    · exact hle
    · have := (left_le_iff h hk m).mp hle
      subst this
      unfold left
      split
      · exact le_top
      · exact le_refl _

/-- Striking out every remaining key at most the least one strikes out the next listed point. -/
theorem left_succ {n : ℕ} {key : Fin n → ℝ} {p : ℕ → Fin n} (h : Picks key p) {k : ℕ} (hk : k < 20) (m : Fin n) :
    (if left key p k m ≤ (key (p k) : EReal) then ⊤ else left key p k m) = left key p (k + 1) m := by
  by_cases hm : m = p k
  · rw [if_pos ((left_le_iff h hk m).mpr hm)]
    unfold left
    rw [if_pos ⟨k, Nat.lt_succ_self k, hm.symm⟩]
  · rw [if_neg (fun hle => hm ((left_le_iff h hk m).mp hle))]
    unfold left
    refine if_congr ⟨?_, ?_⟩ rfl rfl
    · rintro ⟨j, hj, e⟩
      exact ⟨j, Nat.lt_succ_of_lt hj, e⟩
    · rintro ⟨j, hj, e⟩
      refine ⟨j, lt_of_le_of_ne (Nat.lt_succ_iff.mp hj) ?_, e⟩
      rintro rfl
      exact hm e.symm

/-- The two words a comparison's mask takes as numbers. -/
theorem mask_val (P : Prop) [Decidable P] :
    FloatOps.sitofp (F := Ideal) .f32 (BitVec.setWidth 32 (BitVec.ofBool (decide P))) = if P then (1 : EReal) else 0 := by
  by_cases h : P
  · simp only [h, decide_true, if_true]
    show (((BitVec.setWidth 32 (BitVec.ofBool true)).toInt : ℝ) : EReal) = 1
    rw [show (BitVec.setWidth 32 (BitVec.ofBool true)).toInt = 1 by decide]
    norm_num
  · simp only [h, decide_false, if_false]
    show (((BitVec.setWidth 32 (BitVec.ofBool false)).toInt : ℝ) : EReal) = 0
    rw [show (BitVec.setWidth 32 (BitVec.ofBool false)).toInt = 0 by decide]
    norm_num

/-- A sum against the mask of one point is the value there. -/
theorem sum_mask {n : ℕ} (f : Fin n → EReal) (p : Fin n) : ∑ x, f x * (if x = p then (1 : EReal) else 0) = f p := by
  rw [Finset.sum_eq_single p]
  · simp
  · intro b _ hb
    simp [hb]
  · intro h
    exact absurd (Finset.mem_univ p) h

theorem ofBits_inf : Ideal.ofBits FTy.f32 2139095040#32 = ⊤ := by
  simp [Ideal.ofBits, Ideal.ieee]

theorem ofBits_neg_inf : Ideal.ofBits FTy.f32 4286578688#32 = ⊥ := by
  simp [Ideal.ofBits, Ideal.ieee]

theorem ofBits_two : Ideal.ofBits FTy.f32 1073741824#32 = ((2 : ℝ) : EReal) := by
  simp [Ideal.ofBits, Ideal.ieee, -EReal.coe_mul]; norm_num

theorem ofBits_one : Ideal.ofBits FTy.f32 1065353216#32 = ((1 : ℝ) : EReal) := by
  simp [Ideal.ofBits, Ideal.ieee, -EReal.coe_mul]; norm_num

/-- The leaky slope of the programs: the binary32 number nearest 0.2. -/
def slope : ℝ := 13421773 / 67108864

/-- The variance offset of the programs: the binary32 number nearest 1e-5. -/
def eps : ℝ := 10995116 / 1099511627776

theorem ofBits_slope : Ideal.ofBits FTy.f32 1045220557#32 = ((slope : ℝ) : EReal) := by
  simp [Ideal.ofBits, Ideal.ieee, -EReal.coe_mul]; norm_num [slope]

theorem ofBits_eps : Ideal.ofBits FTy.f32 925353388#32 = ((eps : ℝ) : EReal) := by
  simp [Ideal.ofBits, Ideal.ieee, -EReal.coe_mul]; norm_num [eps]

theorem ofBits_count : Ideal.ofBits FTy.f32 1235222528#32 = ((1310720 : ℝ) : EReal) := by
  simp [Ideal.ofBits, Ideal.ieee, -EReal.coe_mul]; norm_num

end Cert.EdgeConv
end
-- ==== Proof.Rank.lean ====
/- The points of a batch in the order a stable sort by a score puts them, largest score first; the first twenty of that
   order are the nearest points when the score is a constant less the key and the twenty-one largest scores differ. -/
module

public import proofs.«01_k».proof.Proof.Near
public import Idealize.ShloMosaic.Lib.SortFacts
public import Idealize.ShloMosaic.PureOps.Ideal.Laws
public import Idealize.ShloMosaic.Lib.ValueLayout

@[expose] public section
noncomputable section
namespace Cert.EdgeConv
open Idealize.ShloMosaic Idealize.ShloMosaic.TcCoe

/-- The points from the largest score down, equal scores in the points' own order. -/
def order {n : ℕ} (f : Fin n → ℝ) : Fin n → Fin n := sortedFrom (fun k k' => decide (f k' < f k))

theorem order_anti {n : ℕ} (f : Fin n → ℝ) {i j : Fin n} (hij : i < j) : f (order f j) ≤ f (order f i) := by
  have h := sortedFrom_noInversion (fun k k' => decide (f k' < f k)) (fun k k' => decide (f k' < f k))
    (fun a b h => by simp only [decide_eq_true_eq, decide_eq_false_iff_not] at h ⊢; exact not_lt.mpr h.le)
    (fun a b h => h)
    (fun a b c h1 h2 => by
      simp only [decide_eq_false_iff_not, not_lt] at h1 h2 ⊢
      exact h1.trans h2) i j hij
  simp only [decide_eq_false_iff_not, not_lt] at h
  exact h

/-- The point at each place of the order, the places as numbers. -/
def pick {n : ℕ} [NeZero n] (f : Fin n → ℝ) (j : ℕ) : Fin n := order f (Fin.ofNat n j)

/-- With the twenty-one largest scores strictly falling, the order's first twenty are the nearest points. -/
theorem picks_pick {n : ℕ} [NeZero n] (hn : 20 < n) (f key : Fin n → ℝ) (c : ℝ) (hkey : ∀ m, key m = c - f m)
    (hs : ∀ j < 20, f (pick f (j + 1)) < f (pick f j)) : Picks key (pick f) := by
  have val : ∀ i < n, (Fin.ofNat n i).val = i := fun i hi => Nat.mod_eq_of_lt hi
  have inj : ∀ i < n, ∀ j < n, pick f i = pick f j → i = j := by
    intro i hi j hj h
    have := congrArg Fin.val (sortedFrom_injective _ h)
    rwa [val i hi, val j hj] at this
  have anti : ∀ i j, i ≤ j → j < n → f (pick f j) ≤ f (pick f i) := by
    intro i j hij hj
    rcases Nat.lt_or_eq_of_le hij with h | h
    · refine order_anti f ?_
      rw [Fin.lt_def, val i (h.trans hj), val j hj]
      exact h
    · rw [h]
  intro k hk
  refine ⟨fun j hj h => ?_, fun m hm hne => ?_⟩
  · have := inj j (by omega) k (by omega) h
    omega
  · obtain ⟨l, hl⟩ := sortedFrom_surjective (fun k k' => decide (f k' < f k)) m
    have hl' : pick f l.val = m := by
      rw [← hl]
      unfold pick order
      rw [Fin.ext (val l.val l.isLt)]
    have hkl : k + 1 ≤ l.val := by
      by_contra hlt
      rcases Nat.lt_or_ge l.val k with h | h
      · exact hm l.val h hl'
      · have : l.val = k := by omega
        exact hne (by rw [← hl', this])
    have h1 := anti (k + 1) l.val hkl l.isLt
    have h2 := hs k hk
    rw [hl'] at h1
    rw [hkey, hkey]
    linarith

section Read

variable {B M N K : ℕ} [NeZero N] (x : (⟨3, ![B, M, N]⟩ : Shape).Idx → EReal) (f : Fin B → Fin M → Fin N → ℝ)
  (hx : ∀ b n m, x (ix3 b n m) = (f b n m : EReal))
  (h : (⟨3, ![B, M, N]⟩ : Shape).Slices (fun _ => 0) ⟨3, ![B, M, K]⟩)

/-- A comparison of two scores of a row. -/
theorem cmp_row (hx : ∀ b n m, x (ix3 b n m) = (f b n m : EReal)) (b : Fin B) (n : Fin M) (m m' : Fin N) :
    (FloatOps.cmpfTotal (F := Ideal) (φ := .f32) .gt (x (ix3 b n m)) (x (ix3 b n m')) == 1#1)
      = decide (f b n m' < f b n m) := by
  rw [hx, hx]
  show (BitVec.ofBool (decide ((f b n m' : EReal) < (f b n m : EReal))) == 1#1) = _
  by_cases hlt : f b n m' < f b n m
  · simp [EReal.coe_lt_coe_iff, hlt]
  · simp [EReal.coe_lt_coe_iff, hlt]

theorem along_ix3 (b : Fin B) (n : Fin M) (m k : Fin N) :
    Shape.Idx.along (s := ⟨3, ![B, M, N]⟩) (ix3 b n m) 2 k = ix3 b n k := by
  funext a
  fin_cases a <;> rfl

/-- The source of each place of a sorted row. -/
theorem sorted_row (hx : ∀ b n m, x (ix3 b n m) = (f b n m : EReal)) (b : Fin B) (n : Fin M) (m : Fin N) :
    sortedFrom (fun k k' => FloatOps.cmpfTotal (F := Ideal) (φ := .f32) .gt
        (x (Shape.Idx.along (s := ⟨3, ![B, M, N]⟩) (ix3 b n m) 2 k))
        (x (Shape.Idx.along (s := ⟨3, ![B, M, N]⟩) (ix3 b n m) 2 k')) == 1#1) m = order (f b n) m := by
  refine congrArg (fun R => sortedFrom (n := N) R m) (funext fun k : Fin N => funext fun k' : Fin N => ?_)
  rw [along_ix3, along_ix3]
  exact cmp_row x f hx b n k k'

theorem slice_row {α : Type} (y : (⟨3, ![B, M, N]⟩ : Shape).Idx → α) (hK : K ≤ N) (b : Fin B) (n : Fin M) (j : Fin K) :
    extractStridedSlice ⟨3, ![B, M, K]⟩ (fun _ => 0) y h (ix3 b n j) = y (ix3 b n ⟨j.val, j.isLt.trans_le hK⟩) :=
  extractStridedSlice_apply _ _ _ _ _ (fun a => by fin_cases a <;> exact (Nat.zero_add _).symm)

include hx in
theorem topK_values (hK : K ≤ N) (b : Fin B) (n : Fin M) (j : Fin K) :
    (Host.topK ⟨3, ![B, M, K]⟩ 2 (FloatOps.cmpfTotal (F := Ideal) (φ := .f32) .gt) x h).1 (ix3 b n j)
      = (f b n (pick (f b n) j.val) : EReal) := by
  refine (slice_row h (fun y => x (Shape.Idx.along y 2 (sortedFrom (fun k k' => FloatOps.cmpfTotal (F := Ideal) (φ := .f32)
    .gt (x (Shape.Idx.along y 2 k)) (x (Shape.Idx.along y 2 k')) == 1#1) (y 2)))) hK b n j).trans ?_
  refine Eq.trans (congrArg (fun k => x (Shape.Idx.along (s := ⟨3, ![B, M, N]⟩)
    (ix3 b n ⟨j.val, j.isLt.trans_le hK⟩) 2 k)) (sorted_row x f hx b n ⟨j.val, j.isLt.trans_le hK⟩)) ?_
  rw [along_ix3, hx]
  unfold pick
  rw [show Fin.ofNat N j.val = ⟨j.val, j.isLt.trans_le hK⟩ from Fin.ext (Nat.mod_eq_of_lt (j.isLt.trans_le hK))]

include hx in
theorem topK_indices (hK : K ≤ N) (b : Fin B) (n : Fin M) (j : Fin K) :
    (Host.topK ⟨3, ![B, M, K]⟩ 2 (FloatOps.cmpfTotal (F := Ideal) (φ := .f32) .gt) x h).2 (ix3 b n j)
      = BitVec.ofNat 32 (pick (f b n) j.val).val := by
  refine (slice_row h (fun y => BitVec.ofNat 32 (Shape.Idx.along y 2 (sortedFrom (fun k k' => FloatOps.cmpfTotal (F := Ideal)
    (φ := .f32) .gt (x (Shape.Idx.along y 2 k)) (x (Shape.Idx.along y 2 k')) == 1#1) (y 2)) 2).val) hK b n j).trans ?_
  refine Eq.trans (congrArg (fun k => BitVec.ofNat 32 (Shape.Idx.along (s := ⟨3, ![B, M, N]⟩)
    (ix3 b n ⟨j.val, j.isLt.trans_le hK⟩) 2 k 2).val) (sorted_row x f hx b n ⟨j.val, j.isLt.trans_le hK⟩)) ?_
  dsimp only
  rw [along_ix3]
  unfold pick
  rw [show Fin.ofNat N j.val = ⟨j.val, j.isLt.trans_le hK⟩ from Fin.ext (Nat.mod_eq_of_lt (j.isLt.trans_le hK))]
  rfl

end Read

end Cert.EdgeConv
-- ==== Proof.Loop0.lean ====
/- The neighbour loop of the first call, read as a recursion over plain vectors: its twenty trips select one neighbour
   each, and what they leave in the scratch buffers and in the output block is `sel` iterated. -/
module

public import proofs.«01_k».proof.Proof.Gen.KernelIdeal.Loops
public import Idealize.ShloMosaic.Lib.Pointwise
public import Idealize.ShloMosaic.Lib.WritesUnit
public import Idealize.ShloMosaic.Lib.VecWindow

@[expose] public section
noncomputable section
namespace Cert.EdgeConv
open Idealize.ShloMosaic Idealize.ShloMosaic.TcCoe Idealize.ShloMosaic.Tactic Cert.KernelIdeal Cert.KernelIdeal.Gen

/-- What the neighbour loop carries: the row minima, the distances with the found neighbours struck out, and the running
    sums of the first layer's values and of their squares. -/
structure Sel where
  low : FVec Ideal S256x1 .f32
  dist : FVec Ideal S256x4096 .f32
  sum : FVec Ideal S64x256 .f32
  sq : FVec Ideal S64x256 .f32

/-- One trip of the neighbour loop. -/
def Sel.step (v5 : FVec Ideal S64x3 .f32) (v23 v26 : FVec Ideal S4x4096 .bf16) (v27 : FVec Ideal S64x256 .f32) (s : Sel) : Sel where
  low := k0_pay2 (k0_pay7 s.low s.dist)
  dist := k0_pay8 s.low s.dist
  sum := k0_pay10 v5 v23 v26 v27 s.low s.dist s.sum
  sq := k0_pay11 v5 v23 v26 v27 s.low s.dist s.sq

/-- The loop's state before trip `k`. -/
def sel (v5 : FVec Ideal S64x3 .f32) (v23 v26 : FVec Ideal S4x4096 .bf16) (v27 : FVec Ideal S64x256 .f32) (s : Sel) : ℕ → Sel
  | 0 => s
  | k + 1 => (sel v5 v23 v26 v27 s k).step v5 v23 v26 v27

/-- The newest store of one neighbour's coordinates, read back: its own payload at its place, the rest elsewhere. -/
theorem read_store_neighbour (v : View sig .tc .vmem S1x20x3x256 .f32) (f : v.ty.Contents (Elt Ideal))
    (L : List (View.Piece (Elt Ideal) S1x20x3x256 .f32)) (k : ℕ) (off : Fin 4 → ℕ) (hoff : off = ![0, k, 0, 0])
    (inb : ∀ a, off a + S1x1x3x256.size a ≤ S1x20x3x256.size a) (w : FVec Ideal S1x1x3x256 .f32) (j : Fin 20) (d : Fin 3) (r : Fin 256) :
    v.read (Elt Ideal) (v.writes (Elt Ideal) f (⟨Rect.unit (s := S1x20x3x256) off S1x1x3x256.size inb, w⟩ :: L)) (ix4 0 j d r)
      = if j.val = k then w (ix4 0 0 d r) else v.read (Elt Ideal) (v.writes (Elt Ideal) f L) (ix4 0 j d r) := by
  split
  · rename_i h
    apply View.read_writes_cons_unit_of_mem (off' := ![0, k, 0, 0])
    · exact hoff
    · intro a
      fin_cases a
      · rfl
      · exact h
      · exact (Nat.zero_add _).symm
      · exact (Nat.zero_add _).symm
  · rename_i h
    apply View.read_writes_cons_unit_of_not_mem (off' := ![0, k, 0, 0]) (a := 1)
    · show j.val < k ∨ k + 1 ≤ j.val
      omega
    · exact hoff

variable (𝒱 : Variants) (c : Dev nD) (bd : Option 𝒱.V) (i : grid0.Coords)
  (arg2 : Memref sig .tc .vmem S1x3x4096 .f32) (harg2 : arg2.IsWhole)
  (arg3 : Memref sig .tc .vmem S1x3x256 .f32) (harg3 : arg3.IsWhole)
  (arg4 : Memref sig .tc .vmem S64x3 .f32) (harg4 : arg4.IsWhole)
  (arg5 : Memref sig .tc .vmem S64x3 .f32) (harg5 : arg5.IsWhole)
  (arg6 : Memref sig .tc .vmem S1x20x3x256 .f32) (harg6 : arg6.IsWhole)
  (arg7 : Memref sig .tc .vmem S1x1x64x2 .f32) (harg7 : arg7.IsWhole)
  (arg8 : Memref sig .tc .vmem S256x4096 .f32) (harg8 : arg8.IsWhole)
  (arg9 : Memref sig .tc .vmem S64x256 .f32) (harg9 : arg9.IsWhole)
  (arg10 : Memref sig .tc .vmem S64x256 .f32) (harg10 : arg10.IsWhole)
  (v5 : FVec Ideal S64x3 .f32) (v23 v26 : FVec Ideal S4x4096 .bf16) (v27 : FVec Ideal S64x256 .f32)

/-- What a trip yields: the row minima after the found neighbours are struck out. -/
theorem trip0_yield (k : Fin k0_t1_loop.trips) (acc : FVec Ideal S256x1 .f32) (f6 : BufTy.Contents (Elt Ideal) arg6.view.ty)
    (f8 : BufTy.Contents (Elt Ideal) arg8.view.ty) (f9 : BufTy.Contents (Elt Ideal) arg9.view.ty)
    (f10 : BufTy.Contents (Elt Ideal) arg10.view.ty) :
    (trip_k0_t1 (F := Ideal) 𝒱 c bd i arg2 harg2 arg3 harg3 arg4 harg4 arg5 harg5 arg6 harg6
      arg7 harg7 arg8 harg8 arg9 harg9 arg10 harg10 v5 v23 v26 v27 k).1 acc f6 f8 f9 f10
      = k0_pay2 (k0_pay7 acc (arg8.view.read (Elt Ideal) f8)) := by
  unfold trip_k0_t1
  dsimp only
  sl_unfold_words
  rw [View.readAt_full]

/-- What a trip stores into the output block: the selected point's coordinates. -/
theorem trip0_out (k : Fin k0_t1_loop.trips) (acc : FVec Ideal S256x1 .f32) (f6 : BufTy.Contents (Elt Ideal) arg6.view.ty)
    (f8 : BufTy.Contents (Elt Ideal) arg8.view.ty) (f9 : BufTy.Contents (Elt Ideal) arg9.view.ty)
    (f10 : BufTy.Contents (Elt Ideal) arg10.view.ty) :
    (trip_k0_t1 (F := Ideal) 𝒱 c bd i arg2 harg2 arg3 harg3 arg4 harg4 arg5 harg5 arg6 harg6
      arg7 harg7 arg8 harg8 arg9 harg9 arg10 harg10 v5 v23 v26 v27 k).2.1 acc f6 f8 f9 f10
      = [⟨Rect.unit (s := S1x20x3x256) (k0_off1 k) S1x1x3x256.size (k0_off1_inb k), k0_pay6 v23 v26 acc (arg8.view.read (Elt Ideal) f8)⟩] := by
  unfold trip_k0_t1
  dsimp only
  sl_unfold_words
  rw [View.readAt_full]

/-- What a trip stores into the distances. -/
theorem trip0_dist (k : Fin k0_t1_loop.trips) (acc : FVec Ideal S256x1 .f32) (f6 : BufTy.Contents (Elt Ideal) arg6.view.ty)
    (f8 : BufTy.Contents (Elt Ideal) arg8.view.ty) (f9 : BufTy.Contents (Elt Ideal) arg9.view.ty)
    (f10 : BufTy.Contents (Elt Ideal) arg10.view.ty) :
    (trip_k0_t1 (F := Ideal) 𝒱 c bd i arg2 harg2 arg3 harg3 arg4 harg4 arg5 harg5 arg6 harg6
      arg7 harg7 arg8 harg8 arg9 harg9 arg10 harg10 v5 v23 v26 v27 k).2.2.1 acc f6 f8 f9 f10
      = [⟨Rect.unit (s := S256x4096) ![0, 0] S256x4096.size inb_S256x4096_S256x4096_0_0, k0_pay8 acc (arg8.view.read (Elt Ideal) f8)⟩] := by
  unfold trip_k0_t1
  dsimp only
  sl_unfold_words
  rw [View.readAt_full]

/-- What a trip stores into the sums. -/
theorem trip0_sum (k : Fin k0_t1_loop.trips) (acc : FVec Ideal S256x1 .f32) (f6 : BufTy.Contents (Elt Ideal) arg6.view.ty)
    (f8 : BufTy.Contents (Elt Ideal) arg8.view.ty) (f9 : BufTy.Contents (Elt Ideal) arg9.view.ty)
    (f10 : BufTy.Contents (Elt Ideal) arg10.view.ty) :
    (trip_k0_t1 (F := Ideal) 𝒱 c bd i arg2 harg2 arg3 harg3 arg4 harg4 arg5 harg5 arg6 harg6
      arg7 harg7 arg8 harg8 arg9 harg9 arg10 harg10 v5 v23 v26 v27 k).2.2.2.1 acc f6 f8 f9 f10
      = [⟨Rect.unit (s := S64x256) ![0, 0] S64x256.size inb_S64x256_S64x256_0_0,
          k0_pay10 v5 v23 v26 v27 acc (arg8.view.read (Elt Ideal) f8) (arg9.view.read (Elt Ideal) f9)⟩] := by
  unfold trip_k0_t1
  dsimp only
  sl_unfold_words
  rw [View.readAt_full, View.readAt_full]

/-- What a trip stores into the sums of squares. -/
theorem trip0_sq (k : Fin k0_t1_loop.trips) (acc : FVec Ideal S256x1 .f32) (f6 : BufTy.Contents (Elt Ideal) arg6.view.ty)
    (f8 : BufTy.Contents (Elt Ideal) arg8.view.ty) (f9 : BufTy.Contents (Elt Ideal) arg9.view.ty)
    (f10 : BufTy.Contents (Elt Ideal) arg10.view.ty) :
    (trip_k0_t1 (F := Ideal) 𝒱 c bd i arg2 harg2 arg3 harg3 arg4 harg4 arg5 harg5 arg6 harg6
      arg7 harg7 arg8 harg8 arg9 harg9 arg10 harg10 v5 v23 v26 v27 k).2.2.2.2.1 acc f6 f8 f9 f10
      = [⟨Rect.unit (s := S64x256) ![0, 0] S64x256.size inb_S64x256_S64x256_0_0,
          k0_pay11 v5 v23 v26 v27 acc (arg8.view.read (Elt Ideal) f8) (arg10.view.read (Elt Ideal) f10)⟩] := by
  unfold trip_k0_t1
  dsimp only
  sl_unfold_words
  rw [View.readAt_full, View.readAt_full]

/-- What the loop's carried value and piece lists hold before trip `k`: `sel` at `k`, and in the output block, at every
    place written so far, what its trip stored there. -/
structure Holds0 (v5 : FVec Ideal S64x3 .f32) (v23 v26 : FVec Ideal S4x4096 .bf16) (v27 : FVec Ideal S64x256 .f32)
    (arg6 : Memref sig .tc .vmem S1x20x3x256 .f32) (arg8 : Memref sig .tc .vmem S256x4096 .f32)
    (arg9 arg10 : Memref sig .tc .vmem S64x256 .f32) (G6 : BufTy.Contents (Elt Ideal) arg6.view.ty) (G8 : BufTy.Contents (Elt Ideal) arg8.view.ty)
    (G9 : BufTy.Contents (Elt Ideal) arg9.view.ty) (G10 : BufTy.Contents (Elt Ideal) arg10.view.ty) (s : ℕ → Sel) (k : ℕ)
    (S : (FVec Ideal S256x1 .f32) × List (View.Piece (Elt Ideal) S1x20x3x256 .f32) × List (View.Piece (Elt Ideal) S256x4096 .f32)
      × List (View.Piece (Elt Ideal) S64x256 .f32) × List (View.Piece (Elt Ideal) S64x256 .f32)) : Prop where
  low : S.1 = (s k).low
  dist : arg8.view.read (Elt Ideal) (arg8.view.writes (Elt Ideal) G8 S.2.2.1) = (s k).dist
  sum : arg9.view.read (Elt Ideal) (arg9.view.writes (Elt Ideal) G9 S.2.2.2.1) = (s k).sum
  sq : arg10.view.read (Elt Ideal) (arg10.view.writes (Elt Ideal) G10 S.2.2.2.2) = (s k).sq
  out : ∀ (j : Fin 20) (d : Fin 3) (r : Fin 256), j.val < k →
    arg6.view.read (Elt Ideal) (arg6.view.writes (Elt Ideal) G6 S.2.1) (ix4 0 j d r)
      = k0_pay6 v23 v26 (s j).low (s j).dist (ix4 0 0 d r)

theorem sel_zero (v5 : FVec Ideal S64x3 .f32) (v23 v26 : FVec Ideal S4x4096 .bf16) (v27 : FVec Ideal S64x256 .f32) (s : Sel) :
    sel v5 v23 v26 v27 s 0 = s := rfl

theorem sel_succ (v5 : FVec Ideal S64x3 .f32) (v23 v26 : FVec Ideal S4x4096 .bf16) (v27 : FVec Ideal S64x256 .f32) (s : Sel) (k : ℕ) :
    sel v5 v23 v26 v27 s (k + 1) = (sel v5 v23 v26 v27 s k).step v5 v23 v26 v27 := rfl

set_option maxHeartbeats 1000000 in
/-- Before trip `k` the loop's state is `sel` at `k`. -/
theorem loop0 (G6 : BufTy.Contents (Elt Ideal) arg6.view.ty) (G8 : BufTy.Contents (Elt Ideal) arg8.view.ty)
    (G9 : BufTy.Contents (Elt Ideal) arg9.view.ty) (G10 : BufTy.Contents (Elt Ideal) arg10.view.ty)
    (init : FVec Ideal S256x1 .f32) (k : ℕ) (hk : k ≤ 20) :
    Holds0 v5 v23 v26 v27 arg6 arg8 arg9 arg10 G6 G8 G9 G10
      (sel v5 v23 v26 v27 ⟨init, arg8.view.read (Elt Ideal) G8, arg9.view.read (Elt Ideal) G9, arg10.view.read (Elt Ideal) G10⟩) k
      (st_k0_t1 (F := Ideal) 𝒱 c bd i arg2 harg2 arg3 harg3 arg4 harg4 arg5 harg5 arg6 harg6
      arg7 harg7 arg8 harg8 arg9 harg9 arg10 harg10 v5 v23 v26 v27
      G6 G8 G9 G10 init k) := by
  induction k with
  | zero => exact ⟨rfl, rfl, rfl, rfl, fun j d r h => absurd h (by omega)⟩
  | succ k ih =>
    have hlt : k < k0_t1_loop.trips := by
      have : k0_t1_loop.trips = 20 := by decide
      omega
    have h := ih (by omega)
    rw [st_k0_t1_succ (F := Ideal) 𝒱 c bd i arg2 harg2 arg3 harg3 arg4 harg4 arg5 harg5 arg6 harg6
      arg7 harg7 arg8 harg8 arg9 harg9 arg10 harg10 v5 v23 v26 v27
      G6 G8 G9 G10 init ⟨k, hlt⟩]
    have hs := sel_succ v5 v23 v26 v27 ⟨init, arg8.view.read (Elt Ideal) G8, arg9.view.read (Elt Ideal) G9, arg10.view.read (Elt Ideal) G10⟩ k
    generalize sel v5 v23 v26 v27 ⟨init, arg8.view.read (Elt Ideal) G8, arg9.view.read (Elt Ideal) G9, arg10.view.read (Elt Ideal) G10⟩ = s at h hs ⊢
    dsimp only
    generalize (st_k0_t1 (F := Ideal) 𝒱 c bd i arg2 harg2 arg3 harg3 arg4 harg4 arg5 harg5 arg6 harg6
      arg7 harg7 arg8 harg8 arg9 harg9 arg10 harg10 v5 v23 v26 v27
      G6 G8 G9 G10 init k) = S at h ⊢
    obtain ⟨h0, h8, h9, h10, h6⟩ := h
    constructor
    · rw [hs]
      refine (trip0_yield ..).trans ?_
      rw [h0, h8, Sel.step]
    · rw [hs]
      refine (congrArg (fun L => arg8.view.read (Elt Ideal) (arg8.view.writes (Elt Ideal) G8 (L ++ S.2.2.1))) (trip0_dist ..)).trans ?_
      refine (View.read_writes_full ..).trans ?_
      rw [h0, h8, Sel.step]
    · rw [hs]
      refine (congrArg (fun L => arg9.view.read (Elt Ideal) (arg9.view.writes (Elt Ideal) G9 (L ++ S.2.2.2.1))) (trip0_sum ..)).trans ?_
      refine (View.read_writes_full ..).trans ?_
      rw [h0, h8, h9, Sel.step]
    · rw [hs]
      refine (congrArg (fun L => arg10.view.read (Elt Ideal) (arg10.view.writes (Elt Ideal) G10 (L ++ S.2.2.2.2))) (trip0_sq ..)).trans ?_
      refine (View.read_writes_full ..).trans ?_
      rw [h0, h8, h10, Sel.step]
    · intro j d r hj
      refine (congrArg (fun L => arg6.view.read (Elt Ideal) (arg6.view.writes (Elt Ideal) G6 (L ++ S.2.1)) (ix4 0 j d r)) (trip0_out ..)).trans ?_
      rw [h0, h8]
      refine (read_store_neighbour _ _ _ k _ (k0_off1_eq _) _ _ j d r).trans ?_
      split
      · rename_i hjk
        rw [hjk]
      · exact h6 j d r (by omega)

end Cert.EdgeConv
end
end
-- ==== Proof.Tile0.lean ====
/- One block of the first call: over finite blocks of the points, the loop finds the points `Picks` lists, writes their
   coordinates, and sums the first layer's values and their squares. -/
module

public import proofs.«01_k».proof.Proof.Loop0
public import proofs.«01_k».proof.Proof.Near

@[expose] public section
noncomputable section
namespace Cert.EdgeConv
open Idealize.ShloMosaic Idealize.ShloMosaic.TcCoe Cert.KernelIdeal Cert.KernelIdeal.Gen

/-- A finite sum of reals, as an extended real. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The key point `m` of the batch is compared by, seen from point `r` of the tile: its squared norm less twice the
    inner product. -/
def key0 {n t : ℕ} (xb : Fin 3 → Fin n → ℝ) (xt : Fin 3 → Fin t → ℝ) (r : Fin t) (m : Fin n) : ℝ :=
  ∑ c, xb c m * xb c m - 2 * ∑ c, xt c r * xb c m

section Blocks

variable (x0 : Vec Ideal S1x3x4096 .f32) (x1 : Vec Ideal S1x3x256 .f32) (x2 x3 : Vec Ideal S64x3 .f32)
  (xb : Fin 3 → Fin 4096 → ℝ) (xt : Fin 3 → Fin 256 → ℝ) (wa wd : Fin 64 → Fin 3 → ℝ)

theorem dinit_apply (h0 : ∀ c m, x0 (ix3 0 c m) = (xb c m : EReal)) (h1 : ∀ c r, x1 (ix3 0 c r) = (xt c r : EReal))
    (r : Fin 256) (m : Fin 4096) : k0_pay16 x0 x1 (ix2 r m) = (key0 xb xt r m : EReal) := by
  pointwise [k0_pay16, k0_pay15, k0_pay13, k0_pay12]
  simp only [h0, h1, ofBits_two, key0, EReal.coe_sub, EReal.coe_mul, coe_sum]

theorem low_apply (w : FVec Ideal S256x4096 .f32) (r : Fin 256) :
    k0_pay2 w (ix2 r 0) = Finset.univ.fold min (⊤ : EReal) (fun m => w (ix2 r m)) := by
  pointwise [k0_pay2]
  rw [ofBits_inf]

theorem low0_apply (r : Fin 256) :
    k0_pay17 x0 x1 (ix2 r 0) = Finset.univ.fold min (⊤ : EReal) (fun m => k0_pay16 x0 x1 (ix2 r m)) := by
  unfold k0_pay17 k0_pay16
  generalize k0_pay15 x0 x1 = w
  pointwise []
  rw [ofBits_inf]

theorem strike_apply (l : FVec Ideal S256x1 .f32) (w : FVec Ideal S256x4096 .f32) (r : Fin 256) (m : Fin 4096) :
    k0_pay8 l w (ix2 r m) = if w (ix2 r m) ≤ l (ix2 r 0) then ⊤ else w (ix2 r m) := by
  pointwise [k0_pay8, k0_pay7, k0_pay4]
  rw [ofBits_inf]

theorem strike_apply' (l : FVec Ideal S256x1 .f32) (w : FVec Ideal S256x4096 .f32) (r : Fin 256) (m : Fin 4096) :
    k0_pay7 l w (ix2 r m) = if w (ix2 r m) ≤ l (ix2 r 0) then ⊤ else w (ix2 r m) := by
  pointwise [k0_pay7, k0_pay4]
  rw [ofBits_inf]

theorem hi_apply (h0 : ∀ c m, x0 (ix3 0 c m) = (xb c m : EReal)) (c : Fin 3) (m : Fin 4096) :
    k0_pay19 x0 (ix2 ⟨c.val, by omega⟩ m) = (xb c m : EReal) := by
  pointwise [k0_pay19, k0_pay18, k0_pay12]
  exact h0 c m

theorem hi_count (m : Fin 4096) : k0_pay19 x0 (ix2 3 m) = 1 := by
  pointwise [k0_pay19, k0_pay18, k0_pay12]

theorem lo_apply (h0 : ∀ c m, x0 (ix3 0 c m) = (xb c m : EReal)) (e : Fin 4) (m : Fin 4096) :
    k0_pay20 x0 (ix2 e m) = 0 := by
  pointwise [k0_pay20, k0_pay19, k0_pay18, k0_pay12]
  split
  · rw [h0, ← EReal.coe_sub, sub_self, EReal.coe_zero]
  · show ((1 : ℝ) : EReal) - ((1 : ℝ) : EReal) = 0
    rw [← EReal.coe_sub, sub_self, EReal.coe_zero]

/-- Where exactly one distance is at most the row's minimum, the masked products give that point's coordinates. -/
theorem found_apply (v23 v26 : FVec Ideal S4x4096 .bf16) (l : FVec Ideal S256x1 .f32) (w : FVec Ideal S256x4096 .f32)
    (hhi : ∀ (c : Fin 3) m, v23 (ix2 ⟨c.val, by omega⟩ m) = (xb c m : EReal)) (hone : ∀ m, v23 (ix2 3 m) = 1)
    (hlo : ∀ e m, v26 (ix2 e m) = 0) (c : Fin 3) (r : Fin 256) (p : Fin 4096) (hp : ∀ m, w (ix2 r m) ≤ l (ix2 r 0) ↔ m = p) :
    k0_pay5 v23 v26 l w (ix2 c r) = (xb c p : EReal) := by
  pointwise [k0_pay5, k0_pay4]
  simp only [mask_val, hp, sum_mask, hlo, hone, hhi, zero_mul, Finset.sum_const_zero, add_zero]
  show Ideal.div _ ((1 : ℝ) : EReal) = _
  rw [Ideal.div_coe one_ne_zero, div_one, EReal.coe_one, mul_one]

theorem out_apply (v23 v26 : FVec Ideal S4x4096 .bf16) (l : FVec Ideal S256x1 .f32) (w : FVec Ideal S256x4096 .f32)
    (c : Fin 3) (r : Fin 256) : k0_pay6 v23 v26 l w (ix4 0 0 c r) = k0_pay5 v23 v26 l w (ix2 c r) := by
  unfold k0_pay6
  generalize k0_pay5 v23 v26 l w = z
  pointwise []

theorem h1_apply (v5 : FVec Ideal S64x3 .f32) (v23 v26 : FVec Ideal S4x4096 .bf16) (v27 : FVec Ideal S64x256 .f32) (l : FVec Ideal S256x1 .f32) (w : FVec Ideal S256x4096 .f32)
    (o : Fin 64) (r : Fin 256) : k0_pay9 v5 v23 v26 v27 l w (ix2 o r) = ∑ c, v5 (ix2 o c) * k0_pay5 v23 v26 l w (ix2 c r) + v27 (ix2 o r) := by
  unfold k0_pay9
  generalize k0_pay5 v23 v26 l w = z
  pointwise []

theorem sum_apply (v5 : FVec Ideal S64x3 .f32) (v23 v26 : FVec Ideal S4x4096 .bf16) (v27 : FVec Ideal S64x256 .f32) (l : FVec Ideal S256x1 .f32) (w : FVec Ideal S256x4096 .f32) (s : FVec Ideal S64x256 .f32)
    (o : Fin 64) (r : Fin 256) : k0_pay10 v5 v23 v26 v27 l w s (ix2 o r) = s (ix2 o r) + k0_pay9 v5 v23 v26 v27 l w (ix2 o r) := by
  unfold k0_pay10
  generalize k0_pay9 v5 v23 v26 v27 l w = z
  pointwise []

theorem sq_apply (v5 : FVec Ideal S64x3 .f32) (v23 v26 : FVec Ideal S4x4096 .bf16) (v27 : FVec Ideal S64x256 .f32) (l : FVec Ideal S256x1 .f32) (w : FVec Ideal S256x4096 .f32) (s : FVec Ideal S64x256 .f32)
    (o : Fin 64) (r : Fin 256) : k0_pay11 v5 v23 v26 v27 l w s (ix2 o r) = s (ix2 o r) + k0_pay9 v5 v23 v26 v27 l w (ix2 o r) * k0_pay9 v5 v23 v26 v27 l w (ix2 o r) := by
  unfold k0_pay11
  generalize k0_pay9 v5 v23 v26 v27 l w = z
  pointwise []

theorem vt_apply (o : Fin 64) (r : Fin 256) : k0_pay21 x1 x3 (ix2 o r) = ∑ c, x3 (ix2 o c) * x1 (ix3 0 c r) := by
  pointwise [k0_pay21, k0_pay13]

theorem w1a_apply (o : Fin 64) (c : Fin 3) : k0_pay14 x2 (ix2 o c) = x2 (ix2 o c) := by
  pointwise [k0_pay14]

theorem zeros_apply (o : Fin 64) (r : Fin 256) : k0_pay22 (F := Ideal) (ix2 o r) = 0 := by
  pointwise [k0_pay22]

theorem zeros_apply' (o : Fin 64) (r : Fin 256) : k0_pay1 (k0_pay23 (F := Ideal)) (ix2 o r) = 0 := by
  pointwise [k0_pay1, k0_pay23]

theorem totals_apply (s q : Vec Ideal S64x256 .f32) (o : Fin 64) :
    k0_pay3 s q (ix4 0 0 o 0) = ∑ r, s (ix2 o r) ∧ k0_pay3 s q (ix4 0 0 o 1) = ∑ r, q (ix2 o r) := by
  constructor
  · pointwise [k0_pay3]
  · pointwise [k0_pay3]

/-- The first layer's value before normalisation at output `o`, tile point `r`, neighbour `m`. -/
def hid {n t : ℕ} (xb : Fin 3 → Fin n → ℝ) (xt : Fin 3 → Fin t → ℝ) (wa wd : Fin 64 → Fin 3 → ℝ) (o : Fin 64) (r : Fin t) (m : Fin n) : ℝ :=
  ∑ c, wa o c * xb c m + ∑ c, wd o c * xt c r

/-- The state the loop of the first call starts from. -/
abbrev start0 : Sel := ⟨k0_pay17 x0 x1, k0_pay16 x0 x1, k0_pay22, k0_pay1 k0_pay23⟩

/-- The loop's state over the values of the block. -/
abbrev sel0 : ℕ → Sel := sel (k0_pay14 x2) (k0_pay19 x0) (k0_pay20 x0) (k0_pay21 x1 x3) (start0 x0 x1)

variable (p : Fin 256 → ℕ → Fin 4096)

/-- Before trip `k`, the points listed before `k` are struck out of the distances, the row minima are the least remaining
    distances, and the sums run over the points listed so far. -/
theorem sel0_apply (h0 : ∀ c m, x0 (ix3 0 c m) = (xb c m : EReal)) (h1 : ∀ c r, x1 (ix3 0 c r) = (xt c r : EReal))
    (h2 : ∀ o c, x2 (ix2 o c) = (wa o c : EReal)) (h3 : ∀ o c, x3 (ix2 o c) = (wd o c : EReal))
    (hp : ∀ r, Picks (key0 xb xt r) (p r)) (k : ℕ) (hk : k ≤ 20) :
    (∀ r m, (sel0 x0 x1 x2 x3 k).dist (ix2 r m) = left (key0 xb xt r) (p r) k m)
    ∧ (∀ r, (sel0 x0 x1 x2 x3 k).low (ix2 r 0) = Finset.univ.fold min (⊤ : EReal) (left (key0 xb xt r) (p r) k))
    ∧ (∀ o r, (sel0 x0 x1 x2 x3 k).sum (ix2 o r) = ((∑ j ∈ Finset.range k, hid xb xt wa wd o r (p r j) : ℝ) : EReal))
    ∧ (∀ o r, (sel0 x0 x1 x2 x3 k).sq (ix2 o r)
        = ((∑ j ∈ Finset.range k, hid xb xt wa wd o r (p r j) * hid xb xt wa wd o r (p r j) : ℝ) : EReal))
    ∧ (k < 20 → ∀ c r, k0_pay5 (k0_pay19 x0) (k0_pay20 x0) (sel0 x0 x1 x2 x3 k).low (sel0 x0 x1 x2 x3 k).dist (ix2 c r)
        = (xb c (p r k) : EReal)) := by
  have hfound : ∀ k, k < 20 → (∀ r m, (sel0 x0 x1 x2 x3 k).dist (ix2 r m) = left (key0 xb xt r) (p r) k m) →
      (∀ r, (sel0 x0 x1 x2 x3 k).low (ix2 r 0) = Finset.univ.fold min (⊤ : EReal) (left (key0 xb xt r) (p r) k)) →
      ∀ c r, k0_pay5 (k0_pay19 x0) (k0_pay20 x0) (sel0 x0 x1 x2 x3 k).low (sel0 x0 x1 x2 x3 k).dist (ix2 c r)
        = (xb c (p r k) : EReal) := by
    intro k hk hd hl c r
    refine found_apply xb _ _ _ _ (hi_apply x0 xb h0) (hi_count x0) (lo_apply x0 xb h0) c r (p r k) fun m => ?_
    rw [hd, hl, left_min (hp r) hk, left_le_iff (hp r) hk]
  induction k with
  | zero =>
    have hd : ∀ r m, (sel0 x0 x1 x2 x3 0).dist (ix2 r m) = left (key0 xb xt r) (p r) 0 m := fun r m => by
      rw [left_zero]; exact dinit_apply x0 x1 xb xt h0 h1 r m
    have hl : ∀ r, (sel0 x0 x1 x2 x3 0).low (ix2 r 0) = Finset.univ.fold min (⊤ : EReal) (left (key0 xb xt r) (p r) 0) := fun r => by
      have e : (fun m => k0_pay16 x0 x1 (ix2 r m)) = left (key0 xb xt r) (p r) 0 := funext (hd r)
      have e' : (sel0 x0 x1 x2 x3 0).low = k0_pay17 x0 x1 := by unfold sel0; rw [sel_zero]
      rw [e', low0_apply, e]
    refine ⟨hd, hl, fun o r => ?_, fun o r => ?_, fun h => hfound 0 h hd hl⟩
    · rw [Finset.range_zero, Finset.sum_empty, EReal.coe_zero]; exact zeros_apply o r
    · rw [Finset.range_zero, Finset.sum_empty, EReal.coe_zero]; exact zeros_apply' o r
  | succ k ih =>
    have hk' : k < 20 := by omega
    obtain ⟨hd, hl, hs, hq, hf⟩ := ih (by omega)
    have hf := hf hk'
    have hd' : ∀ r m, (sel0 x0 x1 x2 x3 (k + 1)).dist (ix2 r m) = left (key0 xb xt r) (p r) (k + 1) m := fun r m => by
      refine (strike_apply _ _ r m).trans ?_
      rw [hd, hl, left_min (hp r) hk', left_succ (hp r) hk']
    have hl' : ∀ r, (sel0 x0 x1 x2 x3 (k + 1)).low (ix2 r 0) = Finset.univ.fold min (⊤ : EReal) (left (key0 xb xt r) (p r) (k + 1)) := fun r => by
      have e : (fun m => k0_pay7 (sel0 x0 x1 x2 x3 k).low (sel0 x0 x1 x2 x3 k).dist (ix2 r m)) = left (key0 xb xt r) (p r) (k + 1) :=
        funext fun m => by rw [strike_apply', hd, hl, left_min (hp r) hk', left_succ (hp r) hk']
      have e' : (sel0 x0 x1 x2 x3 (k + 1)).low = k0_pay2 (k0_pay7 (sel0 x0 x1 x2 x3 k).low (sel0 x0 x1 x2 x3 k).dist) := by
        unfold sel0; rw [sel_succ, Sel.step]
      rw [e', low_apply, e]
    have hh : ∀ o r, k0_pay9 (k0_pay14 x2) (k0_pay19 x0) (k0_pay20 x0) (k0_pay21 x1 x3) (sel0 x0 x1 x2 x3 k).low (sel0 x0 x1 x2 x3 k).dist (ix2 o r)
        = (hid xb xt wa wd o r (p r k) : EReal) := fun o r => by
      rw [h1_apply]
      simp only [hf, vt_apply, w1a_apply, h1, h2, h3, hid, EReal.coe_add, coe_sum, EReal.coe_mul]
    refine ⟨hd', hl', fun o r => ?_, fun o r => ?_, fun h => hfound (k + 1) h hd' hl'⟩
    · refine (sum_apply _ _ _ _ _ _ _ o r).trans ?_
      rw [hs, hh, Finset.sum_range_succ, EReal.coe_add]
    · refine (sq_apply _ _ _ _ _ _ _ o r).trans ?_
      rw [hq, hh, Finset.sum_range_succ, EReal.coe_add, EReal.coe_mul]

/-- What one block of the first call leaves: the neighbours' coordinates, and the two totals. -/
theorem tile0 (h0 : ∀ c m, x0 (ix3 0 c m) = (xb c m : EReal)) (h1 : ∀ c r, x1 (ix3 0 c r) = (xt c r : EReal))
    (h2 : ∀ o c, x2 (ix2 o c) = (wa o c : EReal)) (h3 : ∀ o c, x3 (ix2 o c) = (wd o c : EReal))
    (hp : ∀ r, Picks (key0 xb xt r) (p r)) :
    (∀ (j : Fin 20) c r, k0_pay6 (k0_pay19 x0) (k0_pay20 x0) (sel0 x0 x1 x2 x3 j).low (sel0 x0 x1 x2 x3 j).dist (ix4 0 0 c r)
        = (xb c (p r j) : EReal))
    ∧ (∀ o, k0_pay3 (F := Ideal) (sel0 x0 x1 x2 x3 20).sum (sel0 x0 x1 x2 x3 20).sq (ix4 0 0 o 0)
        = ((∑ r, ∑ j ∈ Finset.range 20, hid xb xt wa wd o r (p r j) : ℝ) : EReal))
    ∧ (∀ o, k0_pay3 (F := Ideal) (sel0 x0 x1 x2 x3 20).sum (sel0 x0 x1 x2 x3 20).sq (ix4 0 0 o 1)
        = ((∑ r, ∑ j ∈ Finset.range 20, hid xb xt wa wd o r (p r j) * hid xb xt wa wd o r (p r j) : ℝ) : EReal)) := by
  refine ⟨fun j c r => ?_, fun o => ?_, fun o => ?_⟩
  · rw [out_apply]
    exact (sel0_apply x0 x1 x2 x3 xb xt wa wd p h0 h1 h2 h3 hp j j.isLt.le).2.2.2.2 j.isLt c r
  · rw [(totals_apply (sel0 x0 x1 x2 x3 20).sum (sel0 x0 x1 x2 x3 20).sq o).1, coe_sum]
    exact Finset.sum_congr rfl fun r _ => (sel0_apply x0 x1 x2 x3 xb xt wa wd p h0 h1 h2 h3 hp 20 le_rfl).2.2.1 o r
  · rw [(totals_apply (sel0 x0 x1 x2 x3 20).sum (sel0 x0 x1 x2 x3 20).sq o).2, coe_sum]
    exact Finset.sum_congr rfl fun r _ => (sel0_apply x0 x1 x2 x3 xb xt wa wd p h0 h1 h2 h3 hp 20 le_rfl).2.2.2.1 o r

end Blocks
end Cert.EdgeConv
end
-- ==== Proof.Ref.lean ====
/- The reference's first half, read at an index: the scores it sorts by, the nearest points it gathers, and the first
   layer's values before normalization. -/
module

public import proofs.«01_k».proof.Proof.Gen.ReferenceIdeal.Run
public import proofs.«01_k».proof.Proof.Gen.ReferenceIdeal.Read
public import proofs.«01_k».proof.Proof.Rank
public import proofs.«01_k».proof.Proof.Tile0
public import Idealize.ShloMosaic.Lib.Pointwise

@[expose] public section
noncomputable section
namespace Cert.EdgeConv
open Idealize.ShloMosaic Idealize.ShloMosaic.TcCoe Cert.ReferenceIdeal Cert.ReferenceIdeal.Gen Cert.ReferenceIdeal.Read

/-- The negated squared distance of two points of a batch, as the reference expands it. -/
def score (a : Fin 16 → Fin 3 → Fin 4096 → ℝ) (b : Fin 16) (n m : Fin 4096) : ℝ :=
  -(∑ c, a b c n * a b c n + ∑ c, a b c m * a b c m - 2 * ∑ c, a b c n * a b c m)

variable (x0 : (⟨S16x3x4096, .f32⟩ : BufTy).Contents (Elt Ideal)) (x1 : (⟨S64x6, .f32⟩ : BufTy).Contents (Elt Ideal))
  (a : Fin 16 → Fin 3 → Fin 4096 → ℝ) (w : Fin 64 → Fin 6 → ℝ)
  (ha : ∀ b c n, x0 (ix3 b c n) = (a b c n : EReal)) (hw : ∀ o i, x1 (ix2 o i) = (w o i : EReal))

include ha

theorem points_read (b : Fin 16) (n : Fin 4096) (c : Fin 3) : val_main_v0 x0 (ix3 b n c) = (a b c n : EReal) := by
  pointwise [val_main_v0, ha]

theorem norms_read (b : Fin 16) (n : Fin 4096) : val_main_v2 x0 (ix2 b n) = ((∑ c, a b c n * a b c n : ℝ) : EReal) := by
  pointwise [val_main_v2, val_main_v1, val_main_cst, points_read x0 a ha]
  simp only [← EReal.coe_mul]
  exact (coe_sum _ _).symm

theorem inner_read (b : Fin 16) (n m : Fin 4096) :
    val_main_v8 x0 (ix3 b n m) = ((∑ c, a b c n * a b c m : ℝ) : EReal) := by
  pointwise [val_main_v8, points_read x0 a ha]
  simp only [← EReal.coe_mul]
  exact (coe_sum _ _).symm

theorem score_read (b : Fin 16) (n m : Fin 4096) : val_main_v12 x0 (ix3 b n m) = (score a b n m : EReal) := by
  pointwise [val_main_v12, val_main_v11, val_main_v10, val_main_v9, val_main_v7, val_main_v6, val_main_v5, val_main_v4,
    val_main_v3, val_main_cst_0, norms_read x0 a ha, inner_read x0 a ha]
  rw [ofBits_two]
  rfl

/-- The points the reference gathers for a point. -/
def nearest (a : Fin 16 → Fin 3 → Fin 4096 → ℝ) (b : Fin 16) (n : Fin 4096) (k : ℕ) : Fin 4096 := pick (score a b n) k

theorem indices_read (b : Fin 16) (n : Fin 4096) (k : Fin 20) :
    val_main_indices x0 (ix3 b n k) = BitVec.ofNat 32 (nearest a b n k.val).val :=
  topK_indices (val_main_v12 x0) (score a) (score_read x0 a ha) sliceFits_S16x4096x4096_S16x4096x20 (by norm_num) b n k

omit ha in
theorem word_toInt (v : ℕ) (h : v < 4096) : (BitVec.ofNat 32 v).toInt = v := by
  rw [BitVec.toInt_eq_toNat_of_lt (by rw [BitVec.toNat_ofNat]; omega), BitVec.toNat_ofNat, Nat.mod_eq_of_lt (by omega)]

omit ha in
/-- A position is not negative, so the reference's wrap of negative positions leaves it. -/
theorem wrap_word (v : ℕ) (h : v < 4096) (y : BitVec 32) :
    Scalar.select (IntOp.cmpi .slt (BitVec.ofNat 32 v) 0#32) y (BitVec.ofNat 32 v) = BitVec.ofNat 32 v := by
  have e : IntOp.cmpi .slt (BitVec.ofNat 32 v) 0#32 = 0#1 := by
    show BitVec.ofBool (BitVec.slt (BitVec.ofNat 32 v) 0#32) = 0#1
    have hs : BitVec.slt (BitVec.ofNat 32 v) 0#32 = false := by
      rw [BitVec.slt_eq_decide, word_toInt v h]
      simp
    rw [hs]
    rfl
  rw [e]
  rfl

theorem wrapped_read (b : Fin 16) (n : Fin 4096) (k : Fin 20) :
    val_main_v24 x0 (ix3 b n k) = BitVec.ofNat 32 (nearest a b n k.val).val := by
  pointwise [val_main_v24, val_main_v23, val_main_v21, val_main_v20, val_main_c_2, val_main_v22, val_main_c_3,
    indices_read x0 a ha]
  exact wrap_word _ (Fin.isLt _) _

omit ha in
theorem batch_read (b : Fin 16) (n : Fin 4096) (k : Fin 20) :
    val_main_v25 (F := Ideal) (ix3 b n k) = BitVec.ofNat 32 b.val := by
  pointwise [val_main_v25, val_main_v19, val_main_v16, val_main_v18, val_main_v17, val_main_c_1, val_main_v15, val_main_c,
    val_main_v14, val_main_v13]
  exact wrap_word _ (by omega) _

theorem start_read (b : Fin 16) (n : Fin 4096) (k : Fin 20) :
    val_main_v28 x0 (ix4 b n k 0) = BitVec.ofNat 32 b.val ∧
      val_main_v28 x0 (ix4 b n k 1) = BitVec.ofNat 32 (nearest a b n k.val).val := by
  constructor
  · pointwise [val_main_v28, val_main_v26, batch_read]
  · pointwise [val_main_v28, val_main_v27, wrapped_read x0 a ha]

/-- The gather: point `k` of the nearest ones, coordinate `c`. -/
theorem neighbour_read (b : Fin 16) (n : Fin 4096) (k : Fin 20) (c : Fin 3) :
    val_main_v29 x0 (ix4 b n k c) = (a b c (nearest a b n k.val) : EReal) := by
  rw [← points_read x0 a ha b (nearest a b n k.val) c]
  unfold val_main_v29 Host.gather
  refine congrArg (val_main_v0 x0) ?_
  obtain ⟨h0, h1⟩ := start_read x0 a ha b n k
  have s0 : ∀ q, (gather_S16x4096x3_S16x4096x20x2_S16x4096x20x3_3_01_n_n_01_3_113).siIdx (ix4 b n k c) ⟨0, q⟩ = ix4 b n k 0 := by
    intro q
    funext e
    fin_cases e <;> rfl
  have s1 : ∀ q, (gather_S16x4096x3_S16x4096x20x2_S16x4096x20x3_3_01_n_n_01_3_113).siIdx (ix4 b n k c) ⟨1, q⟩ = ix4 b n k 1 := by
    intro q
    funext e
    fin_cases e <;> rfl
  funext e
  refine Fin.ext ?_
  show GatherDims.start _ _ _ e + GatherDims.batchCoord _ _ e + GatherDims.offCoord _ _ e = _
  rw [GatherDims.batchCoord_eq_zero _ _ _ List.not_mem_nil]
  fin_cases e
  · rw [GatherDims.offCoord_eq_zero _ _ _ (fun h => ((GatherDims.mem_sKept _ _).mp h).1 (by decide))]
    unfold GatherDims.start
    rw [dif_pos (by decide)]
    refine (congrArg (fun i => min (val_main_v28 x0 i).toInt.toNat (16 - 1) + 0 + 0) (s0 _)).trans ?_
    rw [h0, word_toInt _ (by omega)]
    show min b.val 15 + 0 + 0 = b.val
    omega
  · rw [GatherDims.offCoord_eq_zero _ _ _ (fun h => ((GatherDims.mem_sKept _ _).mp h).1 (by decide))]
    unfold GatherDims.start
    rw [dif_pos (by decide)]
    refine (congrArg (fun i => min (val_main_v28 x0 i).toInt.toNat (4096 - 1) + 0 + 0) (s1 _)).trans ?_
    rw [h1, word_toInt _ (Fin.isLt _)]
    show min (nearest a b n k.val).val 4095 + 0 + 0 = (nearest a b n k.val).val
    omega
  · unfold GatherDims.start
    rw [dif_neg (by decide)]
    exact Nat.zero_add _

/-- The value of the first layer before normalization, at a point and one of its nearest points. -/
def pre1 (a : Fin 16 → Fin 3 → Fin 4096 → ℝ) (w : Fin 64 → Fin 6 → ℝ) (b : Fin 16) (o : Fin 64) (n : Fin 4096) (k : Fin 20) : ℝ :=
  ∑ c : Fin 3, w o ⟨c.val, by omega⟩ * (a b c (nearest a b n k.val) - a b c n) + ∑ c : Fin 3, w o ⟨3 + c.val, by omega⟩ * a b c n

theorem features_read (b : Fin 16) (n : Fin 4096) (k : Fin 20) (c : Fin 3) :
    val_main_v36 x0 (ix4 b ⟨c.val, by omega⟩ n k) = ((a b c (nearest a b n k.val) - a b c n : ℝ) : EReal) ∧
      val_main_v36 x0 (ix4 b ⟨3 + c.val, by omega⟩ n k) = (a b c n : EReal) := by
  constructor
  · fin_cases c <;> pointwise [val_main_v36, val_main_v35, val_main_v32, val_main_v31, val_main_v30, neighbour_read x0 a ha, points_read x0 a ha] <;>
      exact (EReal.coe_sub _ _).symm
  · fin_cases c <;> pointwise [val_main_v36, val_main_v35, val_main_v34, val_main_v33, neighbour_read x0 a ha, points_read x0 a ha]

include hw in
theorem pre1_read (b : Fin 16) (o : Fin 64) (n : Fin 4096) (k : Fin 20) :
    val_main_v38 x0 x1 (ix4 b o n k) = (pre1 a w b o n k : EReal) := by
  pointwise [val_main_v38, val_main_v37]
  refine (Fin.sum_univ_add (a := 3) (b := 3) _).trans ?_
  unfold pre1
  rw [EReal.coe_add, coe_sum, coe_sum]
  refine congrArg₂ (· + ·) (Finset.sum_congr rfl fun c _ => ?_) (Finset.sum_congr rfl fun c _ => ?_)
  · refine (congrArg₂ (· * ·) (features_read x0 a ha b n k c).1 (hw o ⟨c.val, by omega⟩)).trans ?_
    rw [← EReal.coe_mul, mul_comm]
  · refine (congrArg₂ (· * ·) (features_read x0 a ha b n k c).2 (hw o ⟨3 + c.val, by omega⟩)).trans ?_
    rw [← EReal.coe_mul, mul_comm]

end Cert.EdgeConv
-- ==== Proof.Pre.lean ====
/- What the precondition says: six arrays hold real numbers, and a point's twenty-one largest scores strictly fall. -/
module

public import proofs.«01_k».proof.Pre_finite_and_no_tie
public import proofs.«01_k».proof.Proof.Ref

@[expose] public section
noncomputable section
namespace Cert.EdgeConv
open Idealize.ShloMosaic Idealize.ShloMosaic.TcCoe Cert.ReferenceIdeal Cert.ReferenceIdeal.Gen Cert.ReferenceIdeal.Read

/-- The word a true comparison gives. -/
theorem ofBool_one {p : Prop} [Decidable p] (h : BitVec.ofBool (decide p) = 1#1) : p := by
  by_contra hp
  rw [decide_eq_false hp] at h
  exact absurd h (by decide)

/-- A number whose absolute value is below infinity is real. -/
theorem real_of_abs (x : EReal) (h : FloatOps.cmpf (F := Ideal) (φ := .f32) .olt (FloatOps.absf (F := Ideal) (φ := .f32) x) (Ideal.ofBits FTy.f32 0x7F800000#32) = 1#1) :
    x = (x.toReal : EReal) := by
  have e : Ideal.ofBits FTy.f32 0x7F800000#32 = (⊤ : EReal) := ofBits_inf
  have h' : max x (-x) < (⊤ : EReal) := by
    have := ofBool_one h
    rwa [e] at this
  refine (EReal.coe_toReal (fun ht => ?_) fun hb => ?_).symm
  · subst ht; simp at h'
  · subst hb; simp at h'

variable [Cert.Pre_finite_and_no_tie.Facts]
  (x0 : FVec Ideal S16x3x4096 .f32) (x1 : FVec Ideal S64x6 .f32) (x2 x3 : FVec Ideal S64 .f32) (x4 : FVec Ideal S64x64 .f32)
  (x5 x6 : FVec Ideal S64 .f32)

/-- The reference's scores. -/
abbrev scores : FVec Ideal S16x4096x4096 .f32 := val_main_v12 (F := Ideal) x0

/-- The twenty-one largest scores, as the precondition computes them. -/
abbrev largest : FVec Ideal ⟨3, ![16, 4096, 21]⟩ .f32 :=
  (Host.topK ⟨3, ![16, 4096, 21]⟩ 2 (FloatOps.cmpfTotal (F := Ideal) (φ := .f32) .gt) (scores x0)
    Cert.Pre_finite_and_no_tie.Facts.sliceFits_S16x4096x4096_S16x4096x21).1

theorem gap_eq : (Cert.Pre_finite_and_no_tie.fn (F := Ideal) x0 x1 x2 x3 x4 x5 x6).1
    = cmpf .ogt (extractStridedSlice ⟨3, ![16, 4096, 20]⟩ ![0, 0, 0] (largest x0) Cert.Pre_finite_and_no_tie.Facts.slices_S16x4096x21_S16x4096x20_0_0_0)
        (extractStridedSlice ⟨3, ![16, 4096, 20]⟩ ![0, 0, 1] (largest x0) Cert.Pre_finite_and_no_tie.Facts.slices_S16x4096x21_S16x4096x20_0_0_1) := rfl

theorem falls (h : (Cert.Pre_finite_and_no_tie.fn (F := Ideal) x0 x1 x2 x3 x4 x5 x6).1 = fun _ => 1#1)
    (a : Fin 16 → Fin 3 → Fin 4096 → ℝ) (ha : ∀ b c n, x0 (ix3 b c n) = (a b c n : EReal)) (b : Fin 16) (n : Fin 4096)
    (j : ℕ) (hj : j < 20) : score a b n (pick (score a b n) (j + 1)) < score a b n (pick (score a b n) j) := by
  rw [gap_eq] at h
  have hv := topK_values (scores x0) (score a) (score_read x0 a ha)
    Cert.Pre_finite_and_no_tie.Facts.sliceFits_S16x4096x4096_S16x4096x21 (by norm_num) b n
  have e : BitVec.ofBool (decide (
      extractStridedSlice ⟨3, ![16, 4096, 20]⟩ ![0, 0, 1] (largest x0) Cert.Pre_finite_and_no_tie.Facts.slices_S16x4096x21_S16x4096x20_0_0_1 (ix3 b n ⟨j, hj⟩)
      < extractStridedSlice ⟨3, ![16, 4096, 20]⟩ ![0, 0, 0] (largest x0) Cert.Pre_finite_and_no_tie.Facts.slices_S16x4096x21_S16x4096x20_0_0_0 (ix3 b n ⟨j, hj⟩))) = 1#1 :=
    congrFun h (ix3 b n ⟨j, hj⟩)
  have e' := ofBool_one e
  rw [extractStridedSlice_apply _ _ _ (ix3 b n ⟨j, hj⟩) (ix3 b n ⟨j + 1, by omega⟩) (fun a => by fin_cases a <;> simp [Nat.add_comm]),
    extractStridedSlice_apply _ _ _ (ix3 b n ⟨j, hj⟩) (ix3 b n ⟨j, by omega⟩) (fun a => by fin_cases a <;> simp),
    show largest x0 (ix3 b n ⟨j + 1, by omega⟩) = _ from hv ⟨j + 1, by omega⟩,
    show largest x0 (ix3 b n ⟨j, by omega⟩) = _ from hv ⟨j, by omega⟩] at e'
  exact_mod_cast e'

theorem real0 (h : (Cert.Pre_finite_and_no_tie.fn (F := Ideal) x0 x1 x2 x3 x4 x5 x6).2.1 = fun _ => 1#1) (i) :
    x0 i = ((x0 i).toReal : EReal) := real_of_abs _ (congrFun h i)
theorem real1 (h : (Cert.Pre_finite_and_no_tie.fn (F := Ideal) x0 x1 x2 x3 x4 x5 x6).2.2.1 = fun _ => 1#1) (i) :
    x1 i = ((x1 i).toReal : EReal) := real_of_abs _ (congrFun h i)
theorem real2 (h : (Cert.Pre_finite_and_no_tie.fn (F := Ideal) x0 x1 x2 x3 x4 x5 x6).2.2.2.1 = fun _ => 1#1) (i) :
    x2 i = ((x2 i).toReal : EReal) := real_of_abs _ (congrFun h i)
theorem real3 (h : (Cert.Pre_finite_and_no_tie.fn (F := Ideal) x0 x1 x2 x3 x4 x5 x6).2.2.2.2.1 = fun _ => 1#1) (i) :
    x3 i = ((x3 i).toReal : EReal) := real_of_abs _ (congrFun h i)
theorem real4 (h : (Cert.Pre_finite_and_no_tie.fn (F := Ideal) x0 x1 x2 x3 x4 x5 x6).2.2.2.2.2.1 = fun _ => 1#1) (i) :
    x4 i = ((x4 i).toReal : EReal) := real_of_abs _ (congrFun h i)
theorem real5 (h : (Cert.Pre_finite_and_no_tie.fn (F := Ideal) x0 x1 x2 x3 x4 x5 x6).2.2.2.2.2.2 = fun _ => 1#1) (i) :
    x5 i = ((x5 i).toReal : EReal) := real_of_abs _ (congrFun h i)

/-- The kernel's key of a point orders the cloud as the score does, turned round: the nearest points are its choices. -/
theorem nearest_picks (h : (Cert.Pre_finite_and_no_tie.fn (F := Ideal) x0 x1 x2 x3 x4 x5 x6).1 = fun _ => 1#1)
    (a : Fin 16 → Fin 3 → Fin 4096 → ℝ) (ha : ∀ b c n, x0 (ix3 b c n) = (a b c n : EReal)) (b : Fin 16) (n : Fin 4096) :
    Picks (key0 (a b) (a b) n) (nearest a b n) := by
  refine picks_pick (by norm_num) (score a b n) (key0 (a b) (a b) n) (-∑ c, a b c n * a b c n) (fun m => ?_)
    (falls x0 x1 x2 x3 x4 x5 x6 h a ha b n)
  unfold key0 score
  ring

end Cert.EdgeConv
-- ==== Proof.Out0.lean ====
/- The first call: what its body leaves in its two output blocks. -/
module

public import proofs.«01_k».proof.Proof.Gen.Own.KernelIdeal.Frame
public import proofs.«01_k».proof.Proof.Loop0
public import proofs.«01_k».proof.Proof.Tile0
public import Idealize.ShloMosaic.Lib.Pipeline.ValueKit

@[expose] public section
noncomputable section
namespace Cert.EdgeConv
open Idealize.ShloMosaic Idealize.ShloMosaic.TcCoe Cert.KernelIdeal Cert.KernelIdeal.Gen Idealize.ShloMosaic.Tactic

variable (c : Dev nD) (i : grid0.Coords) (arg2 : Memref sig .tc .vmem S1x3x4096 .f32) (harg2 : arg2.IsWhole)
  (arg3 : Memref sig .tc .vmem S1x3x256 .f32) (harg3 : arg3.IsWhole) (arg4 : Memref sig .tc .vmem S64x3 .f32) (harg4 : arg4.IsWhole)
  (arg5 : Memref sig .tc .vmem S64x3 .f32) (harg5 : arg5.IsWhole) (arg6 : Memref sig .tc .vmem S1x20x3x256 .f32) (harg6 : arg6.IsWhole)
  (arg7 : Memref sig .tc .vmem S1x1x64x2 .f32) (harg7 : arg7.IsWhole) (arg8 : Memref sig .tc .vmem S256x4096 .f32) (harg8 : arg8.IsWhole)
  (arg9 : Memref sig .tc .vmem S64x256 .f32) (harg9 : arg9.IsWhole) (arg10 : Memref sig .tc .vmem S64x256 .f32) (harg10 : arg10.IsWhole)
  (x0 : Vec Ideal S1x3x4096 .f32) (x1 : Vec Ideal S1x3x256 .f32) (x2 x3 : Vec Ideal S64x3 .f32)

/-! The values the body computes before its loop. -/

theorem words0_r : kernelRun0_A.sl.r (F := Ideal) c arg4 harg4 x2 = k0_pay14 x2 := by
  sl_unfold_words
  simp only [View.readAt_eq_ld, harg4.read_unread]
  frame_out

theorem words0_r_1 : kernelRun0_A.sl.r_1 (F := Ideal) c arg2 harg2 arg3 harg3 x0 x1 = k0_pay17 x0 x1 := by
  sl_unfold_words
  simp only [View.readAt_eq_ld, harg2.read_unread, harg3.read_unread]
  frame_out

theorem words0_r_2 : kernelRun0_A.sl.r_2 (F := Ideal) c arg2 harg2 x0 = k0_pay19 x0 := by
  sl_unfold_words
  simp only [View.readAt_eq_ld, harg2.read_unread]
  frame_out

theorem words0_r_3 : kernelRun0_A.sl.r_3 (F := Ideal) c arg2 harg2 x0 = k0_pay20 x0 := by
  sl_unfold_words
  simp only [View.readAt_eq_ld, harg2.read_unread]
  frame_out

theorem words0_r_4 : kernelRun0_A.sl.r_4 (F := Ideal) c arg3 harg3 arg5 harg5 x1 x3 = k0_pay21 x1 x3 := by
  sl_unfold_words
  simp only [View.readAt_eq_ld, harg3.read_unread, harg5.read_unread]
  frame_out

theorem words0_HS0_1 : arg8.view.read (Elt Ideal) (arg8.view.writes (Elt Ideal) arg8.view.junk
    (kernelRun0_A.sl.HS0_1 c arg2 harg2 arg3 harg3 x0 x1)) = k0_pay16 x0 x1 := by
  sl_unfold_words
  refine (View.read_writes_full ..).trans ?_
  simp only [View.readAt_eq_ld, harg2.read_unread, harg3.read_unread]
  frame_out

theorem words0_HS1_1 : arg9.view.read (Elt Ideal) (arg9.view.writes (Elt Ideal) arg9.view.junk kernelRun0_A.sl.HS1_1) = k0_pay22 (F := Ideal) := by
  sl_unfold_words
  exact View.read_writes_full ..

theorem words0_HS2_1 : arg10.view.read (Elt Ideal) (arg10.view.writes (Elt Ideal) arg10.view.junk kernelRun0_A.sl.HS2_1) = k0_pay1 (k0_pay23 (F := Ideal)) := by
  sl_unfold_words
  exact View.read_writes_full ..

/-- After the loop. -/
theorem done0 : Holds0 (k0_pay14 x2) (k0_pay19 x0) (k0_pay20 x0) (k0_pay21 x1 x3) arg6 arg8 arg9 arg10 arg6.view.junk
        (arg8.view.writes (Elt Ideal) arg8.view.junk (kernelRun0_A.sl.HS0_1 c arg2 harg2 arg3 harg3 x0 x1))
        (arg9.view.writes (Elt Ideal) arg9.view.junk kernelRun0_A.sl.HS1_1)
        (arg10.view.writes (Elt Ideal) arg10.view.junk kernelRun0_A.sl.HS2_1) (sel0 x0 x1 x2 x3) 20
      (st_k0_t1 (F := Ideal) Variants.none c none i arg2 harg2 arg3 harg3 arg4 harg4 arg5 harg5 arg6 harg6 arg7 harg7 arg8 harg8
        arg9 harg9 arg10 harg10
        (kernelRun0_A.sl.r c arg4 harg4 x2) (kernelRun0_A.sl.r_2 c arg2 harg2 x0)
        (kernelRun0_A.sl.r_3 c arg2 harg2 x0) (kernelRun0_A.sl.r_4 c arg3 harg3 arg5 harg5 x1 x3) arg6.view.junk
        (arg8.view.writes (Elt Ideal) arg8.view.junk (kernelRun0_A.sl.HS0_1 c arg2 harg2 arg3 harg3 x0 x1))
        (arg9.view.writes (Elt Ideal) arg9.view.junk kernelRun0_A.sl.HS1_1)
        (arg10.view.writes (Elt Ideal) arg10.view.junk kernelRun0_A.sl.HS2_1) (kernelRun0_A.sl.r_1 c arg2 harg2 arg3 harg3 x0 x1)
        (Scf.trips (0#32) (Scalar.addi 0#32 20#32) 1#32)) := by
  have ht : Scf.trips (0#32) (Scalar.addi 0#32 20#32) 1#32 = 20 := by decide
  have h := loop0 Variants.none c none i arg2 harg2 arg3 harg3 arg4 harg4 arg5 harg5 arg6 harg6 arg7 harg7 arg8 harg8
        arg9 harg9 arg10 harg10
        (k0_pay14 x2) (k0_pay19 x0) (k0_pay20 x0) (k0_pay21 x1 x3) arg6.view.junk
        (arg8.view.writes (Elt Ideal) arg8.view.junk (kernelRun0_A.sl.HS0_1 c arg2 harg2 arg3 harg3 x0 x1))
        (arg9.view.writes (Elt Ideal) arg9.view.junk kernelRun0_A.sl.HS1_1)
        (arg10.view.writes (Elt Ideal) arg10.view.junk kernelRun0_A.sl.HS2_1)
        (k0_pay17 x0 x1) 20 le_rfl
  rw [words0_HS0_1, words0_HS1_1, words0_HS2_1] at h
  rw [ht, words0_r, words0_r_1, words0_r_2, words0_r_3, words0_r_4]
  exact h

/-- The block of neighbours' coordinates. -/
theorem body0_out (j : Fin 20) (d : Fin 3) (r : Fin 256) : out0_A_4 c i arg2 harg2 arg3 harg3 arg4 harg4 arg5 harg5 arg6 harg6 arg7 harg7 arg8 harg8 arg9 harg9 arg10 harg10 x0 x1 x2 x3 (ix4 0 j d r)
    = k0_pay6 (k0_pay19 x0) (k0_pay20 x0) (sel0 x0 x1 x2 x3 j).low (sel0 x0 x1 x2 x3 j).dist (ix4 0 0 d r) := by
  unfold out0_A_4
  refine (congrFun (View.read_writes_of_cover _ _ arg6.view arg6.view.junk _ fun y => by apply cover0_A_4) _).trans ?_
  unfold kernelRun0_A
  dsimp only
  exact (done0 c i arg2 harg2 arg3 harg3 arg4 harg4 arg5 harg5 arg6 harg6 arg7 harg7 arg8 harg8 arg9 harg9 arg10 harg10 x0 x1 x2 x3).out j d r j.isLt

/-- The block of totals. -/
theorem body0_tot : out0_A_5 c i arg2 harg2 arg3 harg3 arg4 harg4 arg5 harg5 arg6 harg6 arg7 harg7 arg8 harg8 arg9 harg9 arg10 harg10 x0 x1 x2 x3
    = k0_pay3 (F := Ideal) (sel0 x0 x1 x2 x3 20).sum (sel0 x0 x1 x2 x3 20).sq := by
  unfold out0_A_5
  refine (View.read_writes_of_cover _ _ arg7.view arg7.view.junk _ fun y => by apply cover0_A_5).trans ?_
  unfold kernelRun0_A
  dsimp only
  refine (View.read_writes_full ..).trans ?_
  have h := done0 c i arg2 harg2 arg3 harg3 arg4 harg4 arg5 harg5 arg6 harg6 arg7 harg7 arg8 harg8 arg9 harg9 arg10 harg10 x0 x1 x2 x3
  rw [← h.sum, ← h.sq, ← View.writes_append, ← View.writes_append]
  exact congrArg₂ (k0_pay3 (F := Ideal)) (View.readAt_full ..) (View.readAt_full ..)

end Cert.EdgeConv
-- ==== Proof.Array0.lean ====
/- The first call: what its two result arrays hold, over finite arrays and a listing of each point's nearest points. -/
module

public import proofs.«01_k».proof.Proof.Out0

@[expose] public section
noncomputable section
namespace Cert.EdgeConv
open Idealize.ShloMosaic Idealize.ShloMosaic.TcCoe Cert.KernelIdeal Cert.KernelIdeal.Gen

variable (V : (c : Dev nD) → (b : Ref sig .tc) → Buf (Elt Ideal) ((c : Thread nD τ).loc b))

/-- The point of the cloud at place `r` of tile `t`, the tiles being of 256 points. -/
def narrow (t : Fin 16) (r : Fin 256) : Fin 4096 := ⟨t.val * 256 + r.val, by omega⟩

theorem index0 : ∀ t : Fin cfg0.N, win0_0.index t = ![(grid0.coords t 0).val, 0, 0]
    ∧ win0_1.index t = ![(grid0.coords t 0).val, 0, (grid0.coords t 1).val] ∧ win0_2.index t = ![0, 0] ∧ win0_3.index t = ![0, 0]
    ∧ win0_4.index t = ![(grid0.coords t 0).val, 0, 0, (grid0.coords t 1).val]
    ∧ win0_5.index t = ![(grid0.coords t 0).val, (grid0.coords t 1).val, 0, 0] :=
  (by decide +kernel : ∀ t : Fin grid0.N, _)

theorem block0_0 (c : Dev nD) (t : Fin cfg0.N) (d : Fin 3) (m : Fin 4096) :
    iblk0 V c 0 t (ix3 0 d m) = V c main_arg0 (ix3 (grid0.coords t 0) d m) := by
  obtain ⟨e0, e1, e2, e3, e4, e5⟩ := index0 t
  blk_simp [iblk0]
  refine congrArg (V c main_arg0) ?_
  blk_ext [e0]

theorem block0_1 (c : Dev nD) (t : Fin cfg0.N) (d : Fin 3) (r : Fin 256) :
    iblk0 V c 1 t (ix3 0 d r) = V c main_arg0 (ix3 (grid0.coords t 0) d (narrow (grid0.coords t 1) r)) := by
  obtain ⟨e0, e1, e2, e3, e4, e5⟩ := index0 t
  blk_simp [iblk0]
  refine congrArg (V c main_arg0) ?_
  blk_ext [e1, narrow]

theorem block0_2 (c : Dev nD) (t : Fin cfg0.N) (o : Fin 64) (d : Fin 3) : iblk0 V c 2 t (ix2 o d) = V c main_v0 (ix2 o d) := by
  obtain ⟨e0, e1, e2, e3, e4, e5⟩ := index0 t
  blk_simp [iblk0]
  refine congrArg (V c main_v0) ?_
  blk_ext [e2]

theorem block0_3 (c : Dev nD) (t : Fin cfg0.N) (o : Fin 64) (d : Fin 3) : iblk0 V c 3 t (ix2 o d) = V c main_v2 (ix2 o d) := by
  obtain ⟨e0, e1, e2, e3, e4, e5⟩ := index0 t
  blk_simp [iblk0]
  refine congrArg (V c main_v2) ?_
  blk_ext [e3]

theorem place0_4 (t : Fin cfg0.N) (k : Fin 20) (d : Fin 3) (r : Fin 256) :
    (win0_4.blk t).view.emb (ix4 0 k d r) = ix4 (grid0.coords t 0) k d (narrow (grid0.coords t 1) r) := by
  obtain ⟨e0, e1, e2, e3, e4, e5⟩ := index0 t
  blk_ext [e4, narrow]

theorem place0_5 (t : Fin cfg0.N) (o : Fin 64) (z : Fin 2) :
    (win0_5.blk t).view.emb (ix4 0 0 o z) = ix4 (grid0.coords t 0) (grid0.coords t 1) o z := by
  obtain ⟨e0, e1, e2, e3, e4, e5⟩ := index0 t
  blk_ext [e5]

variable (a : Fin 16 → Fin 3 → Fin 4096 → ℝ) (wa wd : Fin 64 → Fin 3 → ℝ) (p : Fin 16 → Fin 4096 → ℕ → Fin 4096)

/-- The neighbours' coordinates, as an array. -/
def near0 : Vec Ideal S16x20x3x4096 .f32 := fun i => ((a (i 0) (i 2) (p (i 0) (i 3) (i 1).val) : ℝ) : EReal)

/-- A tile's total of the first layer's values, and of their squares. -/
def sum0 (b t : Fin 16) (o : Fin 64) : ℝ := ∑ r, ∑ j ∈ Finset.range 20, hid (a b) (a b) wa wd o (narrow t r) (p b (narrow t r) j)
def sq0 (b t : Fin 16) (o : Fin 64) : ℝ := ∑ r, ∑ j ∈ Finset.range 20,
  hid (a b) (a b) wa wd o (narrow t r) (p b (narrow t r) j) * hid (a b) (a b) wa wd o (narrow t r) (p b (narrow t r) j)

/-- The tiles' totals, as an array. -/
def totals0 : Vec Ideal S16x16x64x2 .f32 := fun i =>
  if (i 3).val = 0 then ((sum0 a wa wd p (i 0) (i 1) (i 2) : ℝ) : EReal) else ((sq0 a wa wd p (i 0) (i 1) (i 2) : ℝ) : EReal)

variable (c : Dev nD) (ha : ∀ b d n, V c main_arg0 (ix3 b d n) = (a b d n : EReal)) (hwa : ∀ o d, V c main_v0 (ix2 o d) = (wa o d : EReal))
  (hwd : ∀ o d, V c main_v2 (ix2 o d) = (wd o d : EReal)) (hp : ∀ b n, Picks (key0 (a b) (a b) n) (p b n))
include ha hwa hwd hp

/-- At point `t` of the grid: the tile's facts, from the arrays'. -/
theorem point0 (t : Fin cfg0.N) :
    (∀ (j : Fin 20) d r, k0_pay6 (k0_pay19 (iblk0 V c 0 t)) (k0_pay20 (iblk0 V c 0 t))
        (sel0 (iblk0 V c 0 t) (iblk0 V c 1 t) (iblk0 V c 2 t) (iblk0 V c 3 t) j).low
        (sel0 (iblk0 V c 0 t) (iblk0 V c 1 t) (iblk0 V c 2 t) (iblk0 V c 3 t) j).dist (ix4 0 0 d r)
        = (a (grid0.coords t 0) d (p (grid0.coords t 0) (narrow (grid0.coords t 1) r) j) : EReal))
    ∧ (∀ o, k0_pay3 (F := Ideal) (sel0 (iblk0 V c 0 t) (iblk0 V c 1 t) (iblk0 V c 2 t) (iblk0 V c 3 t) 20).sum
        (sel0 (iblk0 V c 0 t) (iblk0 V c 1 t) (iblk0 V c 2 t) (iblk0 V c 3 t) 20).sq (ix4 0 0 o 0)
        = ((sum0 a wa wd p (grid0.coords t 0) (grid0.coords t 1) o : ℝ) : EReal))
    ∧ (∀ o, k0_pay3 (F := Ideal) (sel0 (iblk0 V c 0 t) (iblk0 V c 1 t) (iblk0 V c 2 t) (iblk0 V c 3 t) 20).sum
        (sel0 (iblk0 V c 0 t) (iblk0 V c 1 t) (iblk0 V c 2 t) (iblk0 V c 3 t) 20).sq (ix4 0 0 o 1)
        = ((sq0 a wa wd p (grid0.coords t 0) (grid0.coords t 1) o : ℝ) : EReal)) :=
  tile0 (iblk0 V c 0 t) (iblk0 V c 1 t) (iblk0 V c 2 t) (iblk0 V c 3 t) (a (grid0.coords t 0))
    (fun d r => a (grid0.coords t 0) d (narrow (grid0.coords t 1) r)) wa wd (fun r => p (grid0.coords t 0) (narrow (grid0.coords t 1) r))
    (fun d m => (block0_0 V c t d m).trans (ha _ _ _)) (fun d r => (block0_1 V c t d r).trans (ha _ _ _))
    (fun o d => (block0_2 V c t o d).trans (hwa _ _)) (fun o d => (block0_3 V c t o d).trans (hwd _ _))
    (fun r => hp (grid0.coords t 0) (narrow (grid0.coords t 1) r))

theorem final0_near : (dat0 V c).arrAt 4 cfg0.N = near0 a p := by
  refine (dat0 V c).arrAt_eq_of_covers 4 _ (by decide +kernel) fun t hf y => ?_
  blk_simp
  rw [after0_4]
  unfold outsAt0
  dsimp only
  idx_vars y
  obtain rfl : y0 = 0 := Subsingleton.elim _ _
  refine (body0_out ..).trans ?_
  refine ((point0 V a wa wd p c ha hwa hwd hp t).1 y1 y2 y3).trans ?_
  refine Eq.trans ?_ (congrArg (near0 a p) (place0_4 t y1 y2 y3)).symm
  rfl

theorem final0_totals : (dat0 V c).arrAt 5 cfg0.N = totals0 a wa wd p := by
  refine (dat0 V c).arrAt_eq_of_covers 5 _ (by decide +kernel) fun t hf y => ?_
  blk_simp
  rw [after0_5]
  unfold outsAt0
  dsimp only
  idx_vars y
  obtain rfl : y0 = 0 := Subsingleton.elim _ _
  obtain rfl : y1 = 0 := Subsingleton.elim _ _
  refine (congrFun (body0_tot ..) _).trans ?_
  refine Eq.trans ?_ (congrArg (totals0 a wa wd p) (place0_5 t y2 y3)).symm
  have h := point0 V a wa wd p c ha hwa hwd hp t
  fin_cases y3
  · exact h.2.1 y2
  · exact h.2.2 y2

end Cert.EdgeConv
-- ==== Proof.Loop1.lean ====
/- The neighbour loop of the second call, read as a recursion over plain vectors: its twenty trips take one neighbour's
   coordinates each and update the running maximum, minimum, sum and sum of squares of the second layer's values. -/
module

public import proofs.«01_k».proof.Proof.Gen.KernelIdeal.Loops
public import Idealize.ShloMosaic.Lib.Pointwise
public import Idealize.ShloMosaic.Lib.WritesUnit
public import Idealize.ShloMosaic.Lib.VecWindow

@[expose] public section
noncomputable section
namespace Cert.EdgeConv
open Idealize.ShloMosaic Idealize.ShloMosaic.TcCoe Idealize.ShloMosaic.Tactic Cert.KernelIdeal Cert.KernelIdeal.Gen

/-- The running maximum, minimum, sum and sum of squares over the neighbours taken so far. -/
structure Acc where
  max : FVec Ideal S1x64x1024 .f32
  min : FVec Ideal S1x64x1024 .f32
  sum : FVec Ideal S64x1024 .f32
  sq : FVec Ideal S64x1024 .f32

/-- One trip: the neighbour coordinates `w` are taken in. -/
def Acc.step (v3 : FVec Ideal S64x3 .f32) (v6 : Vec Ideal S64x64 .f32) (v8 v10 : FVec Ideal S64x1 .f32) (v11 : FVec Ideal S64x1024 .f32) (w : FVec Ideal S1x1x3x1024 .f32) (s : Acc) : Acc where
  max := k1_pay5 v3 v6 v8 v10 v11 w s.max
  min := k1_pay6 v3 v6 v8 v10 v11 w s.min
  sum := k1_pay7 v3 v6 v8 v10 v11 w s.sum
  sq := k1_pay2 (k1_pay4 v3 v6 v8 v10 v11 w) s.sq

/-- The loop's state before trip `k`, over the neighbours `w`. -/
def acc (v3 : FVec Ideal S64x3 .f32) (v6 : Vec Ideal S64x64 .f32) (v8 v10 : FVec Ideal S64x1 .f32) (v11 : FVec Ideal S64x1024 .f32) (w : ℕ → FVec Ideal S1x1x3x1024 .f32) (s : Acc) : ℕ → Acc
  | 0 => s
  | k + 1 => (acc v3 v6 v8 v10 v11 w s k).step v3 v6 v8 v10 v11 (w k)

theorem acc_zero (v3 : FVec Ideal S64x3 .f32) (v6 : Vec Ideal S64x64 .f32) (v8 v10 : FVec Ideal S64x1 .f32) (v11 : FVec Ideal S64x1024 .f32) (w : ℕ → FVec Ideal S1x1x3x1024 .f32) (s : Acc) :
    acc v3 v6 v8 v10 v11 w s 0 = s := rfl

theorem acc_succ (v3 : FVec Ideal S64x3 .f32) (v6 : Vec Ideal S64x64 .f32) (v8 v10 : FVec Ideal S64x1 .f32) (v11 : FVec Ideal S64x1024 .f32) (w : ℕ → FVec Ideal S1x1x3x1024 .f32) (s : Acc) (k : ℕ) :
    acc v3 v6 v8 v10 v11 w s (k + 1) = (acc v3 v6 v8 v10 v11 w s k).step v3 v6 v8 v10 v11 (w k) := rfl

/-- Neighbour `k`'s coordinates in the block of all twenty. -/
def slab (x : FVec Ideal S1x20x3x1024 .f32) (k : ℕ) : FVec Ideal S1x1x3x1024 .f32 :=
  fun y => if h : k < 20 then x (ix4 0 ⟨k, h⟩ (y 2) (y 3)) else 0

/-- A load of neighbour `k`'s coordinates reads `slab`. -/
theorem slab_readAt (v : View sig .tc .vmem S1x20x3x1024 .f32) (f : v.ty.Contents (Elt Ideal)) (k : ℕ) (hk : k < 20)
    (off : Fin 4 → ℕ) (hoff : off = ![0, k, 0, 0]) (inb : ∀ a, off a + S1x1x3x1024.size a ≤ S1x20x3x1024.size a) :
    v.readAt (Elt Ideal) (Rect.unit (s := S1x20x3x1024) off S1x1x3x1024.size inb).toLoadRect f = slab (v.read (Elt Ideal) f) k := by
  subst hoff
  funext y
  rw [slab, dif_pos hk, View.readAt_apply]
  refine congrArg (v.read (Elt Ideal) f) (funext fun a => Fin.ext ?_)
  fin_cases a
  · have h : (y 0).val < 1 := (y 0).isLt
    show 0 + 1 * (y 0).val = 0
    omega
  · have h : (y 1).val < 1 := (y 1).isLt
    show k + 1 * (y 1).val = k
    omega
  · show 0 + 1 * (y 2).val = (y 2).val
    omega
  · show 0 + 1 * (y 3).val = (y 3).val
    omega

theorem trips1 : k1_t1_loop.trips = 20 := by decide

variable (𝒱 : Variants) (c : Dev nD) (bd : Option 𝒱.V) (i : grid1.Coords)
  (arg2 : Memref sig .tc .vmem S1x20x3x1024 .f32) (harg2 : arg2.IsWhole)
  (arg3 : Memref sig .tc .vmem S1x3x1024 .f32) (harg3 : arg3.IsWhole)
  (arg4 : Memref sig .tc .vmem S64x3 .f32) (harg4 : arg4.IsWhole)
  (arg5 : Memref sig .tc .vmem S64x3 .f32) (harg5 : arg5.IsWhole)
  (arg6 : Memref sig .tc .vmem S64x64 .f32) (harg6 : arg6.IsWhole)
  (arg7 : Memref sig .tc .vmem S64x1 .f32) (harg7 : arg7.IsWhole)
  (arg8 : Memref sig .tc .vmem S64x1 .f32) (harg8 : arg8.IsWhole)
  (arg9 : Memref sig .tc .vmem S1x64x1024 .f32) (harg9 : arg9.IsWhole)
  (arg10 : Memref sig .tc .vmem S1x64x1024 .f32) (harg10 : arg10.IsWhole)
  (arg11 : Memref sig .tc .vmem S1x1x64x2 .f32) (harg11 : arg11.IsWhole)
  (arg12 : Memref sig .tc .vmem S64x1024 .f32) (harg12 : arg12.IsWhole)
  (arg13 : Memref sig .tc .vmem S64x1024 .f32) (harg13 : arg13.IsWhole)
  (v3 : FVec Ideal S64x3 .f32) (v6 : Vec Ideal S64x64 .f32) (v8 v10 : FVec Ideal S64x1 .f32) (v11 : FVec Ideal S64x1024 .f32)
  (X : BufTy.Contents (Elt Ideal) arg2.view.ty)

/-- What a trip stores into the running maximum. -/
theorem trip1_max (k : Fin k1_t1_loop.trips) (f9 : BufTy.Contents (Elt Ideal) arg9.view.ty) (f10 : BufTy.Contents (Elt Ideal) arg10.view.ty)
    (f12 : BufTy.Contents (Elt Ideal) arg12.view.ty) (f13 : BufTy.Contents (Elt Ideal) arg13.view.ty) :
    (trip_k1_t1 (F := Ideal) 𝒱 c bd i arg2 harg2 arg3 harg3 arg4 harg4 arg5 harg5 arg6 harg6 arg7 harg7
      arg8 harg8 arg9 harg9 arg10 harg10 arg11 harg11 arg12 harg12 arg13 harg13 v3 v6 v8 v10 v11 X k).1 f9 f10 f12 f13
      = [⟨Rect.unit (s := S1x64x1024) ![0, 0, 0] S1x64x1024.size inb_S1x64x1024_S1x64x1024_0_0_0, k1_pay5 v3 v6 v8 v10 v11 (slab (arg2.view.read (Elt Ideal) X) k) (arg9.view.read (Elt Ideal) f9)⟩] := by
  unfold trip_k1_t1
  dsimp only
  sl_unfold_words
  rw [View.readAt_full]
  exact congrArg (fun w => [(⟨Rect.unit (s := S1x64x1024) ![0, 0, 0] S1x64x1024.size inb_S1x64x1024_S1x64x1024_0_0_0,
    k1_pay5 v3 v6 v8 v10 v11 w (arg9.view.read (Elt Ideal) f9)⟩ : View.Piece (Elt Ideal) S1x64x1024 .f32)])
    (slab_readAt arg2.view X k (Nat.lt_of_lt_of_le k.isLt trips1.le) _ (k1_off1_eq k) (k1_off1_inb k))

/-- What a trip stores into the running minimum. -/
theorem trip1_min (k : Fin k1_t1_loop.trips) (f9 : BufTy.Contents (Elt Ideal) arg9.view.ty) (f10 : BufTy.Contents (Elt Ideal) arg10.view.ty)
    (f12 : BufTy.Contents (Elt Ideal) arg12.view.ty) (f13 : BufTy.Contents (Elt Ideal) arg13.view.ty) :
    (trip_k1_t1 (F := Ideal) 𝒱 c bd i arg2 harg2 arg3 harg3 arg4 harg4 arg5 harg5 arg6 harg6 arg7 harg7
      arg8 harg8 arg9 harg9 arg10 harg10 arg11 harg11 arg12 harg12 arg13 harg13 v3 v6 v8 v10 v11 X k).2.1 f9 f10 f12 f13
      = [⟨Rect.unit (s := S1x64x1024) ![0, 0, 0] S1x64x1024.size inb_S1x64x1024_S1x64x1024_0_0_0, k1_pay6 v3 v6 v8 v10 v11 (slab (arg2.view.read (Elt Ideal) X) k) (arg10.view.read (Elt Ideal) f10)⟩] := by
  unfold trip_k1_t1
  dsimp only
  sl_unfold_words
  rw [View.readAt_full]
  exact congrArg (fun w => [(⟨Rect.unit (s := S1x64x1024) ![0, 0, 0] S1x64x1024.size inb_S1x64x1024_S1x64x1024_0_0_0,
    k1_pay6 v3 v6 v8 v10 v11 w (arg10.view.read (Elt Ideal) f10)⟩ : View.Piece (Elt Ideal) S1x64x1024 .f32)])
    (slab_readAt arg2.view X k (Nat.lt_of_lt_of_le k.isLt trips1.le) _ (k1_off1_eq k) (k1_off1_inb k))

/-- What a trip stores into the sums. -/
theorem trip1_sum (k : Fin k1_t1_loop.trips) (f9 : BufTy.Contents (Elt Ideal) arg9.view.ty) (f10 : BufTy.Contents (Elt Ideal) arg10.view.ty)
    (f12 : BufTy.Contents (Elt Ideal) arg12.view.ty) (f13 : BufTy.Contents (Elt Ideal) arg13.view.ty) :
    (trip_k1_t1 (F := Ideal) 𝒱 c bd i arg2 harg2 arg3 harg3 arg4 harg4 arg5 harg5 arg6 harg6 arg7 harg7
      arg8 harg8 arg9 harg9 arg10 harg10 arg11 harg11 arg12 harg12 arg13 harg13 v3 v6 v8 v10 v11 X k).2.2.1 f9 f10 f12 f13
      = [⟨Rect.unit (s := S64x1024) ![0, 0] S64x1024.size inb_S64x1024_S64x1024_0_0, k1_pay7 v3 v6 v8 v10 v11 (slab (arg2.view.read (Elt Ideal) X) k) (arg12.view.read (Elt Ideal) f12)⟩] := by
  unfold trip_k1_t1
  dsimp only
  sl_unfold_words
  rw [View.readAt_full]
  exact congrArg (fun w => [(⟨Rect.unit (s := S64x1024) ![0, 0] S64x1024.size inb_S64x1024_S64x1024_0_0,
    k1_pay7 v3 v6 v8 v10 v11 w (arg12.view.read (Elt Ideal) f12)⟩ : View.Piece (Elt Ideal) S64x1024 .f32)])
    (slab_readAt arg2.view X k (Nat.lt_of_lt_of_le k.isLt trips1.le) _ (k1_off1_eq k) (k1_off1_inb k))

/-- What a trip stores into the sums of squares. -/
theorem trip1_sq (k : Fin k1_t1_loop.trips) (f9 : BufTy.Contents (Elt Ideal) arg9.view.ty) (f10 : BufTy.Contents (Elt Ideal) arg10.view.ty)
    (f12 : BufTy.Contents (Elt Ideal) arg12.view.ty) (f13 : BufTy.Contents (Elt Ideal) arg13.view.ty) :
    (trip_k1_t1 (F := Ideal) 𝒱 c bd i arg2 harg2 arg3 harg3 arg4 harg4 arg5 harg5 arg6 harg6 arg7 harg7
      arg8 harg8 arg9 harg9 arg10 harg10 arg11 harg11 arg12 harg12 arg13 harg13 v3 v6 v8 v10 v11 X k).2.2.2.1 f9 f10 f12 f13
      = [⟨Rect.unit (s := S64x1024) ![0, 0] S64x1024.size inb_S64x1024_S64x1024_0_0, k1_pay2 (k1_pay4 v3 v6 v8 v10 v11 (slab (arg2.view.read (Elt Ideal) X) k)) (arg13.view.read (Elt Ideal) f13)⟩] := by
  unfold trip_k1_t1
  dsimp only
  sl_unfold_words
  rw [View.readAt_full]
  exact congrArg (fun w => [(⟨Rect.unit (s := S64x1024) ![0, 0] S64x1024.size inb_S64x1024_S64x1024_0_0,
    k1_pay2 (k1_pay4 v3 v6 v8 v10 v11 w) (arg13.view.read (Elt Ideal) f13)⟩ : View.Piece (Elt Ideal) S64x1024 .f32)])
    (slab_readAt arg2.view X k (Nat.lt_of_lt_of_le k.isLt trips1.le) _ (k1_off1_eq k) (k1_off1_inb k))

/-- What the loop's piece lists hold before trip `k`: `acc` at `k`. -/
structure Holds1 (arg9 arg10 : Memref sig .tc .vmem S1x64x1024 .f32) (arg12 arg13 : Memref sig .tc .vmem S64x1024 .f32)
    (G9 : BufTy.Contents (Elt Ideal) arg9.view.ty) (G10 : BufTy.Contents (Elt Ideal) arg10.view.ty)
    (G12 : BufTy.Contents (Elt Ideal) arg12.view.ty) (G13 : BufTy.Contents (Elt Ideal) arg13.view.ty) (s : ℕ → Acc) (k : ℕ)
    (S : List (View.Piece (Elt Ideal) S1x64x1024 .f32) × List (View.Piece (Elt Ideal) S1x64x1024 .f32)
      × List (View.Piece (Elt Ideal) S64x1024 .f32) × List (View.Piece (Elt Ideal) S64x1024 .f32)) : Prop where
  max : arg9.view.read (Elt Ideal) (arg9.view.writes (Elt Ideal) G9 S.1) = (s k).max
  min : arg10.view.read (Elt Ideal) (arg10.view.writes (Elt Ideal) G10 S.2.1) = (s k).min
  sum : arg12.view.read (Elt Ideal) (arg12.view.writes (Elt Ideal) G12 S.2.2.1) = (s k).sum
  sq : arg13.view.read (Elt Ideal) (arg13.view.writes (Elt Ideal) G13 S.2.2.2) = (s k).sq

set_option maxHeartbeats 1000000 in
/-- Before trip `k` the loop's state is `acc` at `k`. -/
theorem loop1 (G9 : BufTy.Contents (Elt Ideal) arg9.view.ty) (G10 : BufTy.Contents (Elt Ideal) arg10.view.ty)
    (G12 : BufTy.Contents (Elt Ideal) arg12.view.ty) (G13 : BufTy.Contents (Elt Ideal) arg13.view.ty) (k : ℕ) (hk : k ≤ 20) :
    Holds1 arg9 arg10 arg12 arg13 G9 G10 G12 G13
      (acc v3 v6 v8 v10 v11 (slab (arg2.view.read (Elt Ideal) X))
        ⟨arg9.view.read (Elt Ideal) G9, arg10.view.read (Elt Ideal) G10, arg12.view.read (Elt Ideal) G12, arg13.view.read (Elt Ideal) G13⟩) k
      (pb_k1_t1 (F := Ideal) 𝒱 c bd i arg2 harg2 arg3 harg3 arg4 harg4 arg5 harg5 arg6 harg6 arg7 harg7
      arg8 harg8 arg9 harg9 arg10 harg10 arg11 harg11 arg12 harg12 arg13 harg13 v3 v6 v8 v10 v11 X
      G9 G10 G12 G13 k) := by
  induction k with
  | zero => exact ⟨rfl, rfl, rfl, rfl⟩
  | succ k ih =>
    have hlt : k < k1_t1_loop.trips := by
      have := trips1
      omega
    have h := ih (by omega)
    rw [pb_k1_t1_succ (F := Ideal) 𝒱 c bd i arg2 harg2 arg3 harg3 arg4 harg4 arg5 harg5 arg6 harg6 arg7 harg7
      arg8 harg8 arg9 harg9 arg10 harg10 arg11 harg11 arg12 harg12 arg13 harg13 v3 v6 v8 v10 v11 X
      G9 G10 G12 G13 ⟨k, hlt⟩]
    have hs := acc_succ v3 v6 v8 v10 v11 (slab (arg2.view.read (Elt Ideal) X))
        ⟨arg9.view.read (Elt Ideal) G9, arg10.view.read (Elt Ideal) G10, arg12.view.read (Elt Ideal) G12, arg13.view.read (Elt Ideal) G13⟩ k
    generalize (acc v3 v6 v8 v10 v11 (slab (arg2.view.read (Elt Ideal) X))
        ⟨arg9.view.read (Elt Ideal) G9, arg10.view.read (Elt Ideal) G10, arg12.view.read (Elt Ideal) G12, arg13.view.read (Elt Ideal) G13⟩) = s at h hs ⊢
    dsimp only
    generalize (pb_k1_t1 (F := Ideal) 𝒱 c bd i arg2 harg2 arg3 harg3 arg4 harg4 arg5 harg5 arg6 harg6 arg7 harg7
      arg8 harg8 arg9 harg9 arg10 harg10 arg11 harg11 arg12 harg12 arg13 harg13 v3 v6 v8 v10 v11 X
      G9 G10 G12 G13 k) = S at h ⊢
    obtain ⟨h9, h10, h12, h13⟩ := h
    constructor
    · rw [hs]
      refine (congrArg (fun L => arg9.view.read (Elt Ideal) (arg9.view.writes (Elt Ideal) G9 (L ++ S.1))) (trip1_max ..)).trans ?_
      refine (View.read_writes_full ..).trans ?_
      rw [h9, Acc.step]
    · rw [hs]
      refine (congrArg (fun L => arg10.view.read (Elt Ideal) (arg10.view.writes (Elt Ideal) G10 (L ++ S.2.1))) (trip1_min ..)).trans ?_
      refine (View.read_writes_full ..).trans ?_
      rw [h10, Acc.step]
    · rw [hs]
      refine (congrArg (fun L => arg12.view.read (Elt Ideal) (arg12.view.writes (Elt Ideal) G12 (L ++ S.2.2.1))) (trip1_sum ..)).trans ?_
      refine (View.read_writes_full ..).trans ?_
      rw [h12, Acc.step]
    · rw [hs]
      refine (congrArg (fun L => arg13.view.read (Elt Ideal) (arg13.view.writes (Elt Ideal) G13 (L ++ S.2.2.2))) (trip1_sq ..)).trans ?_
      refine (View.read_writes_full ..).trans ?_
      rw [h13, Acc.step]

end Cert.EdgeConv
end
end
-- ==== Proof.Tile1.lean ====
/- One block of the second call: over finite blocks, the loop folds the second layer's values of the neighbours into their
   largest, their least, their sum and the sum of their squares. -/
module

public import proofs.«01_k».proof.Proof.Loop1
public import proofs.«01_k».proof.Proof.Tile0

@[expose] public section
noncomputable section
namespace Cert.EdgeConv
open Idealize.ShloMosaic Idealize.ShloMosaic.TcCoe Cert.KernelIdeal Cert.KernelIdeal.Gen

/-- The leaky activation over the reals. -/
def leaky (x : ℝ) : ℝ := if 0 ≤ x then x else slope * x

theorem leaky_coe (x : ℝ) : (if (0 : EReal) ≤ (x : EReal) then (x : EReal) else (slope : EReal) * (x : EReal)) = (leaky x : EReal) := by
  unfold leaky
  by_cases h : 0 ≤ x
  · rw [if_pos h, if_pos (by exact_mod_cast h)]
  · rw [if_neg h, if_neg (by exact_mod_cast h), EReal.coe_mul]

theorem leaky_coe' (x : ℝ) : (if (0 : EReal) ≤ (x : EReal) then (x : EReal) else ((slope * x : ℝ) : EReal)) = (leaky x : EReal) := by
  rw [← leaky_coe, EReal.coe_mul]

section Blocks

variable (v3 : FVec Ideal S64x3 .f32) (v6 : Vec Ideal S64x64 .f32) (v8 v10 : FVec Ideal S64x1 .f32) (v11 : FVec Ideal S64x1024 .f32)

theorem z_apply (w : Vec Ideal S1x1x3x1024 .f32) (r : Fin 64) (c : Fin 1024) :
    k1_pay4 v3 v6 v8 v10 v11 w (ix2 r c)
      = ∑ o, v6 (ix2 r o) * (if 0 ≤ (∑ d, v3 (ix2 o d) * w (ix4 0 0 d c) + v11 (ix2 o c)) * v8 (ix2 o 0) + v10 (ix2 o 0)
          then (∑ d, v3 (ix2 o d) * w (ix4 0 0 d c) + v11 (ix2 o c)) * v8 (ix2 o 0) + v10 (ix2 o 0)
          else (slope : EReal) * ((∑ d, v3 (ix2 o d) * w (ix4 0 0 d c) + v11 (ix2 o c)) * v8 (ix2 o 0) + v10 (ix2 o 0))) := by
  pointwise [k1_pay4]
  rw [ofBits_slope]

theorem zmax_apply (w : Vec Ideal S1x1x3x1024 .f32) (s : Vec Ideal S1x64x1024 .f32) (r : Fin 64) (c : Fin 1024) :
    k1_pay5 v3 v6 v8 v10 v11 w s (ix3 0 r c) = max (s (ix3 0 r c)) (k1_pay4 v3 v6 v8 v10 v11 w (ix2 r c)) := by
  unfold k1_pay5
  generalize k1_pay4 v3 v6 v8 v10 v11 w = z
  pointwise []

theorem zmin_apply (w : Vec Ideal S1x1x3x1024 .f32) (s : Vec Ideal S1x64x1024 .f32) (r : Fin 64) (c : Fin 1024) :
    k1_pay6 v3 v6 v8 v10 v11 w s (ix3 0 r c) = min (s (ix3 0 r c)) (k1_pay4 v3 v6 v8 v10 v11 w (ix2 r c)) := by
  unfold k1_pay6
  generalize k1_pay4 v3 v6 v8 v10 v11 w = z
  pointwise []

theorem zsum_apply (w : Vec Ideal S1x1x3x1024 .f32) (s : Vec Ideal S64x1024 .f32) (r : Fin 64) (c : Fin 1024) :
    k1_pay7 v3 v6 v8 v10 v11 w s (ix2 r c) = s (ix2 r c) + k1_pay4 v3 v6 v8 v10 v11 w (ix2 r c) := by
  unfold k1_pay7
  generalize k1_pay4 v3 v6 v8 v10 v11 w = z
  pointwise []

theorem zsq_apply (z : FVec Ideal S64x1024 .f32) (s : Vec Ideal S64x1024 .f32) (r : Fin 64) (c : Fin 1024) :
    k1_pay2 z s (ix2 r c) = s (ix2 r c) + z (ix2 r c) * z (ix2 r c) := by
  pointwise [k1_pay2]

theorem w1_apply (x2 : Vec Ideal S64x3 .f32) (o : Fin 64) (d : Fin 3) : k1_pay8 x2 (ix2 o d) = x2 (ix2 o d) := by
  pointwise [k1_pay8]

theorem s1_apply (x5 : Vec Ideal S64x1 .f32) (o : Fin 64) : k1_pay9 x5 (ix2 o 0) = x5 (ix2 o 0) := by
  pointwise [k1_pay9]

theorem t1_apply (x6 : Vec Ideal S64x1 .f32) (o : Fin 64) : k1_pay10 x6 (ix2 o 0) = x6 (ix2 o 0) := by
  pointwise [k1_pay10]

theorem vt1_apply (x1 : Vec Ideal S1x3x1024 .f32) (x3 : Vec Ideal S64x3 .f32) (o : Fin 64) (r : Fin 1024) :
    k1_pay11 x1 x3 (ix2 o r) = ∑ d, x3 (ix2 o d) * x1 (ix3 0 d r) := by
  pointwise [k1_pay11]

theorem low1_apply (r : Fin 64) (c : Fin 1024) : k1_pay12 (F := Ideal) (ix3 0 r c) = ⊥ := by
  pointwise [k1_pay12]
  rw [ofBits_neg_inf]

theorem high1_apply (r : Fin 64) (c : Fin 1024) : k1_pay13 (F := Ideal) (ix3 0 r c) = ⊤ := by
  pointwise [k1_pay13]
  rw [ofBits_inf]

theorem zeros1_apply (r : Fin 64) (c : Fin 1024) : k1_pay14 (F := Ideal) (ix2 r c) = 0 := by
  pointwise [k1_pay14]

theorem zeros1_apply' (r : Fin 64) (c : Fin 1024) : k1_pay1 (k1_pay15 (F := Ideal)) (ix2 r c) = 0 := by
  pointwise [k1_pay1, k1_pay15]

theorem totals1_apply (s q : Vec Ideal S64x1024 .f32) (o : Fin 64) :
    k1_pay3 s q (ix4 0 0 o 0) = ∑ r, s (ix2 o r) ∧ k1_pay3 s q (ix4 0 0 o 1) = ∑ r, q (ix2 o r) := by
  constructor
  · pointwise [k1_pay3]
  · pointwise [k1_pay3]

end Blocks

section Fold

variable (x0 : Vec Ideal S1x20x3x1024 .f32) (x1 : Vec Ideal S1x3x1024 .f32) (x2 x3 : Vec Ideal S64x3 .f32) (x4 : Vec Ideal S64x64 .f32)
  (x5 x6 : Vec Ideal S64x1 .f32)
  (nb : ℕ → Fin 3 → Fin 1024 → ℝ) (xt : Fin 3 → Fin 1024 → ℝ) (wa wd : Fin 64 → Fin 3 → ℝ) (w2 : Fin 64 → Fin 64 → ℝ) (s1 t1 : Fin 64 → ℝ)

/-- The second layer's value before normalisation at output `o`, tile point `r`, neighbour `k`. -/
def mid (o : Fin 64) (r : Fin 1024) (k : ℕ) : ℝ :=
  ∑ e, w2 o e * leaky ((∑ d, wa e d * nb k d r + ∑ d, wd e d * xt d r) * s1 e + t1 e)

/-- The state the loop of the second call starts from. -/
abbrev start1 : Acc := ⟨k1_pay12, k1_pay13, k1_pay14, k1_pay1 k1_pay15⟩

/-- The loop's state over the values of the block. -/
abbrev acc1 : ℕ → Acc := acc (k1_pay8 x2) x4 (k1_pay9 x5) (k1_pay10 x6) (k1_pay11 x1 x3) (slab x0) start1

variable (h0 : ∀ (k : Fin 20) c r, x0 (ix4 0 k c r) = (nb k c r : EReal)) (h1 : ∀ c r, x1 (ix3 0 c r) = (xt c r : EReal))
  (h2 : ∀ o c, x2 (ix2 o c) = (wa o c : EReal)) (h3 : ∀ o c, x3 (ix2 o c) = (wd o c : EReal)) (h4 : ∀ o e, x4 (ix2 o e) = (w2 o e : EReal))
  (h5 : ∀ o, x5 (ix2 o 0) = (s1 o : EReal)) (h6 : ∀ o, x6 (ix2 o 0) = (t1 o : EReal))

include h0 h1 h2 h3 h4 h5 h6

theorem mid_apply (k : ℕ) (hk : k < 20) (o : Fin 64) (r : Fin 1024) :
    k1_pay4 (k1_pay8 x2) x4 (k1_pay9 x5) (k1_pay10 x6) (k1_pay11 x1 x3) (slab x0 k) (ix2 o r)
      = (mid nb xt wa wd w2 s1 t1 o r k : EReal) := by
  have hs : ∀ d, slab x0 k (ix4 0 0 d r) = (nb k d r : EReal) := fun d => by
    unfold slab
    rw [dif_pos hk]
    exact h0 ⟨k, hk⟩ d r
  rw [z_apply]
  simp only [w1_apply, s1_apply, t1_apply, vt1_apply, hs, h1, h2, h3, h4, h5, h6, ← EReal.coe_mul, ← coe_sum, ← EReal.coe_add, leaky_coe']
  rfl

/-- Before trip `k` the state holds the largest, the least, the sum and the sum of squares of the first `k` values. -/
theorem acc1_apply (k : ℕ) (hk : k ≤ 20) (o : Fin 64) (r : Fin 1024) :
    (acc1 x0 x1 x2 x3 x4 x5 x6 k).max (ix3 0 o r) = (Finset.range k).fold max (⊥ : EReal) (fun j => (mid nb xt wa wd w2 s1 t1 o r j : EReal))
    ∧ (acc1 x0 x1 x2 x3 x4 x5 x6 k).min (ix3 0 o r) = (Finset.range k).fold min (⊤ : EReal) (fun j => (mid nb xt wa wd w2 s1 t1 o r j : EReal))
    ∧ (acc1 x0 x1 x2 x3 x4 x5 x6 k).sum (ix2 o r) = ((∑ j ∈ Finset.range k, mid nb xt wa wd w2 s1 t1 o r j : ℝ) : EReal)
    ∧ (acc1 x0 x1 x2 x3 x4 x5 x6 k).sq (ix2 o r)
      = ((∑ j ∈ Finset.range k, mid nb xt wa wd w2 s1 t1 o r j * mid nb xt wa wd w2 s1 t1 o r j : ℝ) : EReal) := by
  induction k with
  | zero =>
    unfold acc1
    rw [acc_zero]
    simp only [low1_apply, high1_apply, zeros1_apply, zeros1_apply', Finset.range_zero, Finset.fold_empty, Finset.sum_empty, EReal.coe_zero, and_self]
  | succ k ih =>
    obtain ⟨ia, ib, ic, id⟩ := ih (by omega)
    have hm := mid_apply x0 x1 x2 x3 x4 x5 x6 nb xt wa wd w2 s1 t1 h0 h1 h2 h3 h4 h5 h6 k (by omega) o r
    unfold acc1 at *
    rw [acc_succ, Acc.step]
    simp only [zmax_apply, zmin_apply, zsum_apply, zsq_apply, hm, ia, ib, ic, id]
    rw [Finset.range_add_one, Finset.fold_insert Finset.notMem_range_self, Finset.fold_insert Finset.notMem_range_self,
      Finset.sum_insert Finset.notMem_range_self, Finset.sum_insert Finset.notMem_range_self, max_comm, min_comm, EReal.coe_add, EReal.coe_add,
      EReal.coe_mul]
    exact ⟨rfl, rfl, add_comm _ _, add_comm _ _⟩

end Fold

end Cert.EdgeConv
-- ==== Proof.Out1.lean ====
/- The second call: what its body leaves in its three output blocks. -/
module

public import proofs.«01_k».proof.Proof.Gen.Own.KernelIdeal.Frame
public import proofs.«01_k».proof.Proof.Tile1
public import Idealize.ShloMosaic.Lib.Pipeline.ValueKit

@[expose] public section
noncomputable section
namespace Cert.EdgeConv
open Idealize.ShloMosaic Idealize.ShloMosaic.TcCoe Cert.KernelIdeal Cert.KernelIdeal.Gen Idealize.ShloMosaic.Tactic

variable (c : Dev nD) (i : grid1.Coords) (arg2 : Memref sig .tc .vmem S1x20x3x1024 .f32) (harg2 : arg2.IsWhole)
  (arg3 : Memref sig .tc .vmem S1x3x1024 .f32) (harg3 : arg3.IsWhole) (arg4 : Memref sig .tc .vmem S64x3 .f32) (harg4 : arg4.IsWhole)
  (arg5 : Memref sig .tc .vmem S64x3 .f32) (harg5 : arg5.IsWhole) (arg6 : Memref sig .tc .vmem S64x64 .f32) (harg6 : arg6.IsWhole)
  (arg7 : Memref sig .tc .vmem S64x1 .f32) (harg7 : arg7.IsWhole) (arg8 : Memref sig .tc .vmem S64x1 .f32) (harg8 : arg8.IsWhole)
  (arg9 : Memref sig .tc .vmem S1x64x1024 .f32) (harg9 : arg9.IsWhole) (arg10 : Memref sig .tc .vmem S1x64x1024 .f32) (harg10 : arg10.IsWhole)
  (arg11 : Memref sig .tc .vmem S1x1x64x2 .f32) (harg11 : arg11.IsWhole) (arg12 : Memref sig .tc .vmem S64x1024 .f32) (harg12 : arg12.IsWhole)
  (arg13 : Memref sig .tc .vmem S64x1024 .f32) (harg13 : arg13.IsWhole)
  (x0 : Vec Ideal S1x20x3x1024 .f32) (x1 : Vec Ideal S1x3x1024 .f32) (x2 x3 : Vec Ideal S64x3 .f32) (x4 : Vec Ideal S64x64 .f32)
  (x5 x6 : Vec Ideal S64x1 .f32)

/-! The values the body computes before its loop. -/

theorem words1_r : kernelRun1_A.sl.r (F := Ideal) c arg4 harg4 x2 = k1_pay8 x2 := by
  sl_unfold_words
  simp only [View.readAt_eq_ld, harg4.read_unread]
  frame_out

theorem words1_r_1 : kernelRun1_A.sl.r_1 (F := Ideal) c arg6 harg6 x4 = x4 := by
  sl_unfold_words
  simp only [View.readAt_eq_ld, harg6.read_unread]
  frame_out

theorem words1_r_2 : kernelRun1_A.sl.r_2 (F := Ideal) c arg7 harg7 x5 = k1_pay9 x5 := by
  sl_unfold_words
  simp only [View.readAt_eq_ld, harg7.read_unread]
  frame_out

theorem words1_r_3 : kernelRun1_A.sl.r_3 (F := Ideal) c arg8 harg8 x6 = k1_pay10 x6 := by
  sl_unfold_words
  simp only [View.readAt_eq_ld, harg8.read_unread]
  frame_out

theorem words1_r_4 : kernelRun1_A.sl.r_4 (F := Ideal) c arg3 harg3 arg5 harg5 x1 x3 = k1_pay11 x1 x3 := by
  sl_unfold_words
  simp only [View.readAt_eq_ld, harg3.read_unread, harg5.read_unread]
  frame_out

theorem words1_H7_1 : arg9.view.read (Elt Ideal) (arg9.view.writes (Elt Ideal) arg9.view.junk kernelRun1_A.sl.H7_1) = k1_pay12 (F := Ideal) := by
  sl_unfold_words
  exact View.read_writes_full ..

theorem words1_H8_1 : arg10.view.read (Elt Ideal) (arg10.view.writes (Elt Ideal) arg10.view.junk kernelRun1_A.sl.H8_1) = k1_pay13 (F := Ideal) := by
  sl_unfold_words
  exact View.read_writes_full ..

theorem words1_HS0_1 : arg12.view.read (Elt Ideal) (arg12.view.writes (Elt Ideal) arg12.view.junk kernelRun1_A.sl.HS0_1) = k1_pay14 (F := Ideal) := by
  sl_unfold_words
  exact View.read_writes_full ..

theorem words1_HS1_1 : arg13.view.read (Elt Ideal) (arg13.view.writes (Elt Ideal) arg13.view.junk kernelRun1_A.sl.HS1_1) = k1_pay1 (k1_pay15 (F := Ideal)) := by
  sl_unfold_words
  exact View.read_writes_full ..

/-- After the loop. -/
theorem done1 : Holds1 arg9 arg10 arg12 arg13 (arg9.view.writes (Elt Ideal) arg9.view.junk kernelRun1_A.sl.H7_1)
        (arg10.view.writes (Elt Ideal) arg10.view.junk kernelRun1_A.sl.H8_1)
        (arg12.view.writes (Elt Ideal) arg12.view.junk kernelRun1_A.sl.HS0_1)
        (arg13.view.writes (Elt Ideal) arg13.view.junk kernelRun1_A.sl.HS1_1) (acc1 x0 x1 x2 x3 x4 x5 x6) 20
      (pb_k1_t1 (F := Ideal) Variants.none c none i arg2 harg2 arg3 harg3 arg4 harg4 arg5 harg5 arg6 harg6 arg7 harg7 arg8 harg8
        arg9 harg9 arg10 harg10 arg11 harg11 arg12 harg12 arg13 harg13 (kernelRun1_A.sl.r c arg4 harg4 x2)
        (kernelRun1_A.sl.r_1 c arg6 harg6 x4) (kernelRun1_A.sl.r_2 c arg7 harg7 x5) (kernelRun1_A.sl.r_3 c arg8 harg8 x6)
        (kernelRun1_A.sl.r_4 c arg3 harg3 arg5 harg5 x1 x3) (harg2.unread x0)
        (arg9.view.writes (Elt Ideal) arg9.view.junk kernelRun1_A.sl.H7_1)
        (arg10.view.writes (Elt Ideal) arg10.view.junk kernelRun1_A.sl.H8_1)
        (arg12.view.writes (Elt Ideal) arg12.view.junk kernelRun1_A.sl.HS0_1)
        (arg13.view.writes (Elt Ideal) arg13.view.junk kernelRun1_A.sl.HS1_1)
        (Scf.trips (0#32) (Scalar.addi 0#32 20#32) 1#32)) := by
  have ht : Scf.trips (0#32) (Scalar.addi 0#32 20#32) 1#32 = 20 := by decide
  have h := loop1 Variants.none c none i arg2 harg2 arg3 harg3 arg4 harg4 arg5 harg5 arg6 harg6 arg7 harg7 arg8 harg8
        arg9 harg9 arg10 harg10 arg11 harg11 arg12 harg12 arg13 harg13 (kernelRun1_A.sl.r c arg4 harg4 x2)
        (kernelRun1_A.sl.r_1 c arg6 harg6 x4) (kernelRun1_A.sl.r_2 c arg7 harg7 x5) (kernelRun1_A.sl.r_3 c arg8 harg8 x6)
        (kernelRun1_A.sl.r_4 c arg3 harg3 arg5 harg5 x1 x3) (harg2.unread x0)
        (arg9.view.writes (Elt Ideal) arg9.view.junk kernelRun1_A.sl.H7_1)
        (arg10.view.writes (Elt Ideal) arg10.view.junk kernelRun1_A.sl.H8_1)
        (arg12.view.writes (Elt Ideal) arg12.view.junk kernelRun1_A.sl.HS0_1)
        (arg13.view.writes (Elt Ideal) arg13.view.junk kernelRun1_A.sl.HS1_1) 20 le_rfl
  rw [words1_H7_1, words1_H8_1, words1_HS0_1, words1_HS1_1, harg2.read_unread] at h
  rw [ht]
  refine Eq.mp ?_ h
  rw [words1_r, words1_r_1, words1_r_2, words1_r_3, words1_r_4]

theorem body1_max : out1_A_7 c i arg2 harg2 arg3 harg3 arg4 harg4 arg5 harg5 arg6 harg6 arg7 harg7 arg8 harg8 arg9 harg9 arg10 harg10 arg11 harg11 arg12 harg12
    arg13 harg13 x0 x1 x2 x3 x4 x5 x6 = (acc1 x0 x1 x2 x3 x4 x5 x6 20).max := by
  unfold out1_A_7
  refine (View.read_writes_of_cover _ _ arg9.view arg9.view.junk _ fun y => by apply cover1_A_7).trans ?_
  unfold kernelRun1_A
  dsimp only
  rw [View.writes_append]
  exact (done1 c i arg2 harg2 arg3 harg3 arg4 harg4 arg5 harg5 arg6 harg6 arg7 harg7 arg8 harg8 arg9 harg9 arg10 harg10 arg11 harg11 arg12 harg12
    arg13 harg13 x0 x1 x2 x3 x4 x5 x6).max

theorem body1_min : out1_A_8 c i arg2 harg2 arg3 harg3 arg4 harg4 arg5 harg5 arg6 harg6 arg7 harg7 arg8 harg8 arg9 harg9 arg10 harg10 arg11 harg11 arg12 harg12
    arg13 harg13 x0 x1 x2 x3 x4 x5 x6 = (acc1 x0 x1 x2 x3 x4 x5 x6 20).min := by
  unfold out1_A_8
  refine (View.read_writes_of_cover _ _ arg10.view arg10.view.junk _ fun y => by apply cover1_A_8).trans ?_
  unfold kernelRun1_A
  dsimp only
  rw [View.writes_append]
  exact (done1 c i arg2 harg2 arg3 harg3 arg4 harg4 arg5 harg5 arg6 harg6 arg7 harg7 arg8 harg8 arg9 harg9 arg10 harg10 arg11 harg11 arg12 harg12
    arg13 harg13 x0 x1 x2 x3 x4 x5 x6).min

theorem body1_tot : out1_A_9 c i arg2 harg2 arg3 harg3 arg4 harg4 arg5 harg5 arg6 harg6 arg7 harg7 arg8 harg8 arg9 harg9 arg10 harg10 arg11 harg11 arg12 harg12
    arg13 harg13 x0 x1 x2 x3 x4 x5 x6
    = k1_pay3 (F := Ideal) (acc1 x0 x1 x2 x3 x4 x5 x6 20).sum (acc1 x0 x1 x2 x3 x4 x5 x6 20).sq := by
  unfold out1_A_9
  refine (View.read_writes_of_cover _ _ arg11.view arg11.view.junk _ fun y => by apply cover1_A_9).trans ?_
  unfold kernelRun1_A
  dsimp only
  refine (View.read_writes_full ..).trans ?_
  have h := done1 c i arg2 harg2 arg3 harg3 arg4 harg4 arg5 harg5 arg6 harg6 arg7 harg7 arg8 harg8 arg9 harg9 arg10 harg10 arg11 harg11 arg12 harg12
    arg13 harg13 x0 x1 x2 x3 x4 x5 x6
  rw [← h.sum, ← h.sq, ← View.writes_append, ← View.writes_append]
  unfold kernelRun1_A.sl.v29 kernelRun1_A.sl.v32
  exact congrArg₂ (k1_pay3 (F := Ideal)) (View.readAt_full ..) (View.readAt_full ..)

end Cert.EdgeConv
-- ==== Proof.Host.lean ====
/- What the host computes between the calls: the weights' two parts, and each normalisation's scale and shift. -/
module

public import proofs.«01_k».proof.Proof.Gen.Own.KernelIdeal.Launch
public import proofs.«01_k».proof.Proof.Tile1
public import Idealize.ShloMosaic.Lib.StableHlo.ReadAt

@[expose] public section
noncomputable section
namespace Cert.EdgeConv
open Idealize.ShloMosaic Idealize.ShloMosaic.TcCoe Cert.KernelIdeal Cert.KernelIdeal.Gen

/-- A host sum over the first two axes, read at an output index. -/
theorem reduceAdd_01 {n0 n1 n2 n3 : ℕ} (h : (⟨4, ![n0, n1, n2, n3]⟩ : Shape).ReducesTo [0, 1] ⟨2, ![n2, n3]⟩)
    (v : (⟨4, ![n0, n1, n2, n3]⟩ : Shape).Idx → EReal) (init : EReal) (c : Fin n2) (d : Fin n3) :
    Ideal.hostReduceAdd h v init (ix2 c d) = init + ∑ a, ∑ b, v (ix4 a b c d) := by
  refine congrArg (init + ·) ((Finset.sum_filter_eq_sum_of_fiber _ (fun k : Fin n0 × Fin n1 => ix4 k.1 k.2 c d)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨k, rfl⟩
      funext b
      apply Fin.ext
      match b with
      | ⟨0, _⟩ => rfl
      | ⟨1, _⟩ => rfl
  · simp only [Fintype.sum_prod_type]

/-- The number of values each channel's mean is over. -/
def count : ℝ := 1310720

/-- A mean, from the sum. -/
def avg (s : ℝ) : ℝ := s * (1 / count)

/-- One over the deviation, from the sum and the sum of squares. -/
def inv (s q : ℝ) : ℝ := (Real.sqrt (avg q - avg s * avg s + eps))⁻¹

theorem eps_pos : 0 < eps := by unfold eps; norm_num

theorem div_count (x : ℝ) : Ideal.div (x : EReal) (Ideal.ofBits FTy.f32 1235222528#32) = (avg x : EReal) := by
  rw [ofBits_count, Ideal.div_coe (by norm_num), ← EReal.coe_mul]
  rfl

theorem rsqrt_pos (x : ℝ) (hx : 0 < x) : Ideal.rsqrt (x : EReal) = ((Real.sqrt x)⁻¹ : ℝ) := by
  show (if x < 0 then (⊥ : EReal) else if x = 0 then ⊤ else ((Real.sqrt x)⁻¹ : ℝ)) = _
  rw [if_neg (not_lt.2 hx.le), if_neg hx.ne']

theorem rsqrt_var (s q : ℝ) (h : 0 ≤ avg q - avg s * avg s) :
    Ideal.rsqrt ((avg q : EReal) - (avg s : EReal) * (avg s : EReal) + Ideal.ofBits FTy.f32 925353388#32) = (inv s q : EReal) := by
  rw [ofBits_eps, ← EReal.coe_mul, ← EReal.coe_sub, ← EReal.coe_add, rsqrt_pos _ (add_pos_of_nonneg_of_pos h eps_pos)]
  rfl

variable (V : Valuation τ sig (Elt Ideal))

section Weights

variable (w : Fin 64 → Fin 6 → ℝ) (hw : ∀ o e, V (Proc.devRef .tc main_arg1) (ix2 o e) = (w o e : EReal))

include hw

theorem w1a_read (o : Fin 64) (c : Fin 3) : StableHlo.after hostOps0 V (Proc.devRef .tc main_v0) (ix2 o c)
    = (w o ⟨c.val, by omega⟩ : EReal) := by
  after_reads_at
  exact hw _ _

theorem w1d_read (o : Fin 64) (c : Fin 3) : StableHlo.after hostOps0 V (Proc.devRef .tc main_v2) (ix2 o c)
    = ((w o ⟨3 + c.val, by omega⟩ - w o ⟨c.val, by omega⟩ : ℝ) : EReal) := by
  after_reads_at
  simp only [hw, EReal.coe_sub]

end Weights

section First

variable (p q : Fin 16 → Fin 16 → Fin 64 → ℝ) (g : Fin 64 → ℝ)
  (hp : ∀ b t o, V (Proc.devRef .tc main_v3_1) (ix4 b t o 0) = (p b t o : EReal))
  (hq : ∀ b t o, V (Proc.devRef .tc main_v3_1) (ix4 b t o 1) = (q b t o : EReal))
  (hg : ∀ o, V (Proc.devRef .tc main_arg2) (ix1 o) = (g o : EReal))
  (hv : ∀ o, 0 ≤ avg (∑ b, ∑ t, q b t o) - avg (∑ b, ∑ t, p b t o) * avg (∑ b, ∑ t, p b t o))

include hp hq hg hv

theorem s1_read (o : Fin 64) : StableHlo.after hostOps1 V (Proc.devRef .tc main_v19) (ix2 o 0)
    = ((g o * inv (∑ b, ∑ t, p b t o) (∑ b, ∑ t, q b t o) : ℝ) : EReal) := by
  after_reads_at
  simp only [reduceAdd_01, zero_add, hp, hq, hg, ← coe_sum, div_count]
  rw [rsqrt_var _ _ (hv o), EReal.coe_mul]

theorem t1_read (B : Fin 64 → EReal) (hb : ∀ o, V (Proc.devRef .tc main_arg3) (ix1 o) = B o) (o : Fin 64) : StableHlo.after hostOps1 V (Proc.devRef .tc main_v26) (ix2 o 0)
    = B o - ((avg (∑ b, ∑ t, p b t o) * g o * inv (∑ b, ∑ t, p b t o) (∑ b, ∑ t, q b t o) : ℝ) : EReal) := by
  after_reads_at
  simp only [reduceAdd_01, zero_add, hp, hq, hg, hb, ← coe_sum, div_count]
  rw [rsqrt_var _ _ (hv o), EReal.coe_mul, EReal.coe_mul]

end First

section Second

variable (p q : Fin 16 → Fin 4 → Fin 64 → ℝ) (g : Fin 64 → ℝ)
  (hp : ∀ b t o, V (Proc.devRef .tc main_v27_2) (ix4 b t o 0) = (p b t o : EReal))
  (hq : ∀ b t o, V (Proc.devRef .tc main_v27_2) (ix4 b t o 1) = (q b t o : EReal))
  (hg : ∀ o, V (Proc.devRef .tc main_arg5) (ix1 o) = (g o : EReal))
  (hv : ∀ o, 0 ≤ avg (∑ b, ∑ t, q b t o) - avg (∑ b, ∑ t, p b t o) * avg (∑ b, ∑ t, p b t o))

include hp hq hg hv

theorem s2_read (o : Fin 64) : StableHlo.after hostOps2 V (Proc.devRef .tc main_v43) (ix2 o 0)
    = ((g o * inv (∑ b, ∑ t, p b t o) (∑ b, ∑ t, q b t o) : ℝ) : EReal) := by
  after_reads_at
  simp only [reduceAdd_01, zero_add, hp, hq, hg, ← coe_sum, div_count]
  rw [rsqrt_var _ _ (hv o), EReal.coe_mul]

theorem t2_read (B : Fin 64 → EReal) (hb : ∀ o, V (Proc.devRef .tc main_arg6) (ix1 o) = B o) (o : Fin 64) : StableHlo.after hostOps2 V (Proc.devRef .tc main_v50) (ix2 o 0)
    = B o - ((avg (∑ b, ∑ t, p b t o) * g o * inv (∑ b, ∑ t, p b t o) (∑ b, ∑ t, q b t o) : ℝ) : EReal) := by
  after_reads_at
  simp only [reduceAdd_01, zero_add, hp, hq, hg, hb, ← coe_sum, div_count]
  rw [rsqrt_var _ _ (hv o), EReal.coe_mul, EReal.coe_mul]

end Second

end Cert.EdgeConv
-- ==== Proof.RefNorm.lean ====
/- The reference's two normalized layers, read at an index, and its result. -/
module

public import proofs.«01_k».proof.Proof.Ref
public import proofs.«01_k».proof.Proof.Host

@[expose] public section
noncomputable section
namespace Cert.EdgeConv
open Idealize.ShloMosaic Idealize.ShloMosaic.TcCoe Cert.ReferenceIdeal Cert.ReferenceIdeal.Gen Cert.ReferenceIdeal.Read

/-- A host sum over every axis but the second, read at an output index. -/
theorem reduceAdd_023 {n0 n1 n2 n3 : ℕ} (h : (⟨4, ![n0, n1, n2, n3]⟩ : Shape).ReducesTo [0, 2, 3] ⟨1, ![n1]⟩)
    (v : (⟨4, ![n0, n1, n2, n3]⟩ : Shape).Idx → EReal) (init : EReal) (o : Fin n1) :
    Ideal.hostReduceAdd h v init (ix1 o) = init + ∑ a, ∑ b, ∑ c, v (ix4 a o b c) := by
  refine congrArg (init + ·) ((Finset.sum_filter_eq_sum_of_fiber _ (fun k : Fin n0 × Fin n2 × Fin n3 => ix4 k.1 o k.2.1 k.2.2)
    (fun _ _ e => Prod.ext (congrFun e 0) (Prod.ext (congrFun e 2) (congrFun e 3))) (fun i => ?_) v).trans ?_)
  · constructor
    · intro e
      refine ⟨(i 0, i 2, i 3), ?_⟩
      funext a; apply Fin.ext
      match a with
      | ⟨0, _⟩ => rfl
      | ⟨1, _⟩ => exact (congrArg Fin.val (congrFun e 0)).symm
      | ⟨2, _⟩ => rfl
      | ⟨3, _⟩ => rfl
    · rintro ⟨k, rfl⟩
      funext b
      apply Fin.ext
      match b with
      | ⟨0, _⟩ => rfl
  · simp only [Fintype.sum_prod_type]

/-- The values of a layer: batch, channel, point, neighbour. -/
abbrev Layer := Fin 16 → Fin 64 → Fin 4096 → Fin 20 → ℝ

/-- A channel's mean. -/
def mean (h : Layer) (o : Fin 64) : ℝ := avg (∑ b, ∑ n, ∑ k, h b o n k)

/-- A channel's variance: the mean squared deviation. -/
def var (h : Layer) (o : Fin 64) : ℝ :=
  avg (∑ b, ∑ n, ∑ k, (h b o n k - mean h o) * (h b o n k - mean h o))

/-- A layer normalized and scaled. -/
def norm (h : Layer) (g : Fin 64 → ℝ) (b : Fin 16) (o : Fin 64) (n : Fin 4096) (k : Fin 20) : ℝ :=
  (h b o n k - mean h o) * (1 / Real.sqrt (var h o + eps)) * g o

theorem var_nonneg (h : Layer) (o : Fin 64) : 0 ≤ var h o := by
  unfold var avg count
  refine mul_nonneg ?_ (by norm_num)
  exact Finset.sum_nonneg fun b _ => Finset.sum_nonneg fun n _ => Finset.sum_nonneg fun k _ => mul_self_nonneg _

theorem sum3_coe (f : Fin 16 → Fin 4096 → Fin 20 → ℝ) :
    ∑ b, ∑ n, ∑ k, (f b n k : EReal) = ((∑ b, ∑ n, ∑ k, f b n k : ℝ) : EReal) := by
  simp only [coe_sum]

/-- The deviation the reference divides by. -/
theorem sqrt_var (h : Layer) (o : Fin 64) :
    Ideal.sqrt ((var h o : EReal) + (eps : EReal)) = ((Real.sqrt (var h o + eps) : ℝ) : EReal) := by
  rw [← EReal.coe_add]
  show (if var h o + eps < 0 then (⊥ : EReal) else ((Real.sqrt (var h o + eps) : ℝ) : EReal)) = _
  rw [if_neg (not_lt.mpr (add_pos_of_nonneg_of_pos (var_nonneg h o) eps_pos).le)]

theorem div_dev (h : Layer) (o : Fin 64) (x : ℝ) : Ideal.div (x : EReal) ((Real.sqrt (var h o + eps) : ℝ) : EReal)
    = ((x * (1 / Real.sqrt (var h o + eps)) : ℝ) : EReal) := by
  rw [Ideal.div_coe (Real.sqrt_pos.mpr (add_pos_of_nonneg_of_pos (var_nonneg h o) eps_pos)).ne', ← EReal.coe_mul]

/-- The sample count less nothing. -/
theorem count_less : Ideal.ofBits FTy.f32 1235222528#32 - FloatOps.sitofp (F := Ideal) FTy.f32 0#32 = (count : EReal) := by
  rw [ofBits_count]
  show ((1310720 : ℝ) : EReal) - (((0#32 : BitVec 32).toInt : ℝ) : EReal) = _
  rw [← EReal.coe_sub]
  unfold count
  norm_num

theorem count_pos : (0 : EReal) < (count : EReal) := by
  rw [EReal.coe_pos]
  unfold count
  norm_num

theorem div_count' (x : ℝ) : Ideal.div (x : EReal) (count : EReal) = (avg x : EReal) := by
  rw [← div_count, ofBits_count]
  rfl

variable (x0 : (⟨S16x3x4096, .f32⟩ : BufTy).Contents (Elt Ideal)) (x1 : (⟨S64x6, .f32⟩ : BufTy).Contents (Elt Ideal))
  (x2 x3 : (⟨S64, .f32⟩ : BufTy).Contents (Elt Ideal))

section First

variable (h : Layer) (hh : ∀ b o n k, val_main_v38 x0 x1 (ix4 b o n k) = (h b o n k : EReal))

include hh

theorem mean1_read (o : Fin 64) : val_main_v42 x0 x1 (ix4 0 o 0 0) = (mean h o : EReal) := by
  pointwise [val_main_v42, val_main_v41, val_main_cst_5, val_main_v40, val_main_v39, val_main_cst_4]
  refine (congrArg (fun y => Ideal.div y _) (reduceAdd_023 _ _ _ o)).trans ?_
  simp only [hh, zero_add]
  rw [sum3_coe, div_count]
  rfl

theorem dev1_read (b : Fin 16) (o : Fin 64) (n : Fin 4096) (k : Fin 20) :
    val_main_call0_v6 x0 x1 (ix4 b o n k) = (((h b o n k - mean h o) * (h b o n k - mean h o) : ℝ) : EReal) := by
  have e : val_main_call0_v3 x0 x1 (ix4 0 o 0 0) = (mean h o : EReal) := mean1_read x0 x1 h hh o
  pointwise [val_main_call0_v6, val_main_call0_v5, val_main_call0_v4, hh, e]
  rw [← EReal.coe_sub, ← EReal.coe_mul]

theorem var1_read (o : Fin 64) : val_main_v43 x0 x1 (ix4 0 o 0 0) = (var h o : EReal) := by
  pointwise [val_main_v43, val_main_call0_v12, val_main_call0_v13, val_main_call0_v11, val_main_call0_v10, val_main_call0_v9,
    val_main_call0_v8, val_main_call0_v7, val_main_call0_cst_1, val_main_call0_cst_2, val_main_call0_cst_3, val_main_c_6]
  rw [count_less, if_pos count_pos]
  refine (congrArg (fun y => Ideal.div y _) (reduceAdd_023 _ _ _ o)).trans ?_
  simp only [dev1_read x0 x1 h hh, zero_add]
  rw [sum3_coe, div_count']
  rfl

variable (g B : Fin 64 → ℝ) (hg : ∀ o, x2 (ix1 o) = (g o : EReal)) (hB : ∀ o, x3 (ix1 o) = (B o : EReal))

include hg hB

theorem affine1_read (b : Fin 16) (o : Fin 64) (n : Fin 4096) (k : Fin 20) :
    val_main_v56 x0 x1 x2 x3 (ix4 b o n k) = ((norm h g b o n k + B o : ℝ) : EReal) := by
  pointwise [val_main_v56, val_main_v55, val_main_v54, val_main_v53, val_main_v52, val_main_v51, val_main_v50, val_main_v49,
    val_main_v48, val_main_v47, val_main_v46, val_main_cst_7, val_main_v45, val_main_v44, hh, hg, hB,
    mean1_read x0 x1 h hh, var1_read x0 x1 h hh]
  rw [ofBits_eps, sqrt_var, ← EReal.coe_sub, div_dev, ← EReal.coe_mul, ← EReal.coe_add]
  rfl

theorem leaky1_read (b : Fin 16) (o : Fin 64) (n : Fin 4096) (k : Fin 20) :
    val_main_v61 x0 x1 x2 x3 (ix4 b o n k) = (leaky (norm h g b o n k + B o) : EReal) := by
  pointwise [val_main_v61, val_main_v60, val_main_v59, val_main_v58, val_main_v57, val_main_cst_8, val_main_cst_9,
    affine1_read x0 x1 x2 x3 h hh g B hg hB]
  rw [ofBits_slope]
  exact leaky_coe _

/-- The second layer before normalization. -/
def pre2 (h : Layer) (g B : Fin 64 → ℝ) (v : Fin 64 → Fin 64 → ℝ) : Layer :=
  fun b o n k => ∑ e, v o e * leaky (norm h g b e n k + B e)

theorem pre2_read (x4 : (⟨S64x64, .f32⟩ : BufTy).Contents (Elt Ideal)) (v : Fin 64 → Fin 64 → ℝ)
    (hv : ∀ o e, x4 (ix2 o e) = (v o e : EReal)) (b : Fin 16) (o : Fin 64) (n : Fin 4096) (k : Fin 20) :
    val_main_v63 x0 x1 x2 x3 x4 (ix4 b o n k) = (pre2 h g B v b o n k : EReal) := by
  pointwise [val_main_v63, val_main_v62, leaky1_read x0 x1 x2 x3 h hh g B hg hB, hv]
  simp only [← EReal.coe_mul, ← coe_sum]
  refine congrArg _ (Finset.sum_congr rfl fun e _ => mul_comm _ _)

end First

section Second

variable (x4 : (⟨S64x64, .f32⟩ : BufTy).Contents (Elt Ideal)) (x5 x6 : (⟨S64, .f32⟩ : BufTy).Contents (Elt Ideal))
  (h : Layer) (hh : ∀ b o n k, val_main_v63 x0 x1 x2 x3 x4 (ix4 b o n k) = (h b o n k : EReal))

include hh

theorem mean2_read (o : Fin 64) : val_main_v67 x0 x1 x2 x3 x4 (ix4 0 o 0 0) = (mean h o : EReal) := by
  pointwise [val_main_v67, val_main_v66, val_main_cst_11, val_main_v65, val_main_v64, val_main_cst_10]
  refine (congrArg (fun y => Ideal.div y _) (reduceAdd_023 _ _ _ o)).trans ?_
  simp only [hh, zero_add]
  rw [sum3_coe, div_count]
  rfl

theorem dev2_read (b : Fin 16) (o : Fin 64) (n : Fin 4096) (k : Fin 20) :
    val_main_call2_v6 x0 x1 x2 x3 x4 (ix4 b o n k) = (((h b o n k - mean h o) * (h b o n k - mean h o) : ℝ) : EReal) := by
  have e : val_main_call2_v3 x0 x1 x2 x3 x4 (ix4 0 o 0 0) = (mean h o : EReal) := mean2_read x0 x1 x2 x3 x4 h hh o
  pointwise [val_main_call2_v6, val_main_call2_v5, val_main_call2_v4, hh, e]
  rw [← EReal.coe_sub, ← EReal.coe_mul]

theorem var2_read (o : Fin 64) : val_main_v68 x0 x1 x2 x3 x4 (ix4 0 o 0 0) = (var h o : EReal) := by
  pointwise [val_main_v68, val_main_call2_v12, val_main_call2_v13, val_main_call2_v11, val_main_call2_v10, val_main_call2_v9,
    val_main_call2_v8, val_main_call2_v7, val_main_call2_cst_1, val_main_call2_cst_2, val_main_call2_cst_3, val_main_c_12]
  rw [count_less, if_pos count_pos]
  refine (congrArg (fun y => Ideal.div y _) (reduceAdd_023 _ _ _ o)).trans ?_
  simp only [dev2_read x0 x1 x2 x3 x4 h hh, zero_add]
  rw [sum3_coe, div_count']
  rfl

variable (g : Fin 64 → ℝ) (B : Fin 64 → EReal) (hg : ∀ o, x5 (ix1 o) = (g o : EReal)) (hB : ∀ o, x6 (ix1 o) = B o)

/-- The leaky step on the extended reals. -/
def leakyE (x : EReal) : EReal := if 0 ≤ x then x else (slope : EReal) * x

include hg hB

theorem affine2_read (b : Fin 16) (o : Fin 64) (n : Fin 4096) (k : Fin 20) :
    val_main_v81 x0 x1 x2 x3 x4 x5 x6 (ix4 b o n k) = (norm h g b o n k : EReal) + B o := by
  pointwise [val_main_v81, val_main_v80, val_main_v79, val_main_v78, val_main_v77, val_main_v76, val_main_v75, val_main_v74,
    val_main_v73, val_main_v72, val_main_v71, val_main_cst_13, val_main_v70, val_main_v69, hh, hg, hB,
    mean2_read x0 x1 x2 x3 x4 h hh, var2_read x0 x1 x2 x3 x4 h hh]
  rw [ofBits_eps, sqrt_var, ← EReal.coe_sub, div_dev, ← EReal.coe_mul]
  rfl

theorem leaky2_read (b : Fin 16) (o : Fin 64) (n : Fin 4096) (k : Fin 20) :
    val_main_v86 x0 x1 x2 x3 x4 x5 x6 (ix4 b o n k) = leakyE ((norm h g b o n k : EReal) + B o) := by
  pointwise [val_main_v86, val_main_v85, val_main_v84, val_main_v83, val_main_v82, val_main_cst_14, val_main_cst_15,
    affine2_read x0 x1 x2 x3 x4 x5 x6 h hh g B hg hB]
  rw [ofBits_slope]
  rfl

/-- The reference's result: the greatest over the nearest points. -/
theorem result_read (b : Fin 16) (o : Fin 64) (n : Fin 4096) :
    val_main_v87 x0 x1 x2 x3 x4 x5 x6 (ix3 b o n)
      = Finset.univ.fold max ⊥ (fun k : Fin 20 => leakyE ((norm h g b o n k : EReal) + B o)) := by
  pointwise [val_main_v87, val_main_cst_16, leaky2_read x0 x1 x2 x3 x4 x5 x6 h hh g B hg hB]
  rw [ofBits_neg_inf]

end Second

end Cert.EdgeConv
-- ==== Proof.Out2.lean ====
/- The third call: what its result array holds, at an index, over the arrays it reads. -/
module

public import proofs.«01_k».proof.Proof.Gen.Own.KernelIdeal.Frame
public import proofs.«01_k».proof.Proof.RefNorm
public import Idealize.ShloMosaic.Lib.Pipeline.ValueKit

@[expose] public section
noncomputable section
namespace Cert.EdgeConv
open Idealize.ShloMosaic Idealize.ShloMosaic.TcCoe Cert.KernelIdeal Cert.KernelIdeal.Gen

/-- The third call's payload at an index: the larger or the smaller extreme by the sign of the scale, scaled, shifted and
    through the activation. -/
theorem last_apply (v0 v2 : FVec Ideal S64x1 .f32) (v6 v8 : Vec Ideal S1x64x1024 .f32) (o : Fin 64) (r : Fin 1024) :
    k2_pay1 v0 v2 v6 v8 (ix3 0 o r)
      = leakyE (v0 (ix2 o 0) * (if 0 ≤ v0 (ix2 o 0) then v6 (ix3 0 o r) else v8 (ix3 0 o r)) + v2 (ix2 o 0)) := by
  unfold leakyE
  pointwise [k2_pay1]
  rw [ofBits_slope]

variable (V : (c : Dev nD) → (b : Ref sig .tc) → Buf (Elt Ideal) ((c : Thread nD τ).loc b))

theorem index2 : ∀ t : Fin cfg2.N, win2_0.index t = ![(grid2.coords t 0).val, 0, (grid2.coords t 1).val]
    ∧ win2_1.index t = ![(grid2.coords t 0).val, 0, (grid2.coords t 1).val] ∧ win2_2.index t = ![0, 0] ∧ win2_3.index t = ![0, 0]
    ∧ win2_4.index t = ![(grid2.coords t 0).val, 0, (grid2.coords t 1).val] :=
  (by decide +kernel : ∀ t : Fin grid2.N, _)

/-- The point of the cloud at place `r` of tile `t`, the tiles being of 1024 points. -/
def wide (t : Fin 4) (r : Fin 1024) : Fin 4096 := ⟨t.val * 1024 + r.val, by omega⟩

theorem block2_0 (c : Dev nD) (t : Fin cfg2.N) (o : Fin 64) (r : Fin 1024) :
    iblk2 V c 0 t (ix3 0 o r) = V c main_v27_0 (ix3 (grid2.coords t 0) o (wide (grid2.coords t 1) r)) := by
  obtain ⟨e0, e1, e2, e3, e4⟩ := index2 t
  blk_simp [iblk2]
  refine congrArg (V c main_v27_0) ?_
  blk_ext [e0, wide]

theorem block2_1 (c : Dev nD) (t : Fin cfg2.N) (o : Fin 64) (r : Fin 1024) :
    iblk2 V c 1 t (ix3 0 o r) = V c main_v27_1 (ix3 (grid2.coords t 0) o (wide (grid2.coords t 1) r)) := by
  obtain ⟨e0, e1, e2, e3, e4⟩ := index2 t
  blk_simp [iblk2]
  refine congrArg (V c main_v27_1) ?_
  blk_ext [e1, wide]

theorem block2_2 (c : Dev nD) (t : Fin cfg2.N) (o : Fin 64) (z : Fin 1) : iblk2 V c 2 t (ix2 o z) = V c main_v43 (ix2 o z) := by
  obtain ⟨e0, e1, e2, e3, e4⟩ := index2 t
  blk_simp [iblk2]
  refine congrArg (V c main_v43) ?_
  blk_ext [e2]

theorem block2_3 (c : Dev nD) (t : Fin cfg2.N) (o : Fin 64) (z : Fin 1) : iblk2 V c 3 t (ix2 o z) = V c main_v50 (ix2 o z) := by
  obtain ⟨e0, e1, e2, e3, e4⟩ := index2 t
  blk_simp [iblk2]
  refine congrArg (V c main_v50) ?_
  blk_ext [e3]

theorem place2_4 (t : Fin cfg2.N) (o : Fin 64) (r : Fin 1024) :
    (win2_4.blk t).view.emb (ix3 0 o r) = ix3 (grid2.coords t 0) o (wide (grid2.coords t 1) r) := by
  obtain ⟨e0, e1, e2, e3, e4⟩ := index2 t
  blk_ext [e4, wide]

/-- What the third call leaves, over the four arrays it reads. -/
def last (s t : Vec Ideal S64x1 .f32) (hi lo : Vec Ideal S16x64x4096 .f32) : Vec Ideal S16x64x4096 .f32 := fun i =>
  leakyE (s (ix2 (i 1) 0) * (if 0 ≤ s (ix2 (i 1) 0) then hi i else lo i) + t (ix2 (i 1) 0))

/-- The third call's result array. -/
theorem final2 (c : Dev nD) : (dat2 V c).arrAt 4 cfg2.N = last (V c main_v43) (V c main_v50) (V c main_v27_0) (V c main_v27_1) := by
  refine (dat2 V c).arrAt_eq_of_covers 4 _ (by decide +kernel) fun t hf y => ?_
  blk_simp
  rw [after2_4]
  unfold out2_4
  frame_out
  idx_vars y
  obtain rfl : y0 = 0 := Subsingleton.elim _ _
  refine (last_apply _ _ _ _ _ _).trans ?_
  rw [block2_0, block2_1, block2_2, block2_3]
  refine Eq.trans ?_ (congrArg (last _ _ _ _) (place2_4 t y1 y2)).symm
  rfl

end Cert.EdgeConv
-- ==== Proof.Array1.lean ====
/- The second call: what its three result arrays hold, over finite arrays. -/
module

public import proofs.«01_k».proof.Proof.Out1
public import proofs.«01_k».proof.Proof.Out2

@[expose] public section
noncomputable section
namespace Cert.EdgeConv
open Idealize.ShloMosaic Idealize.ShloMosaic.TcCoe Cert.KernelIdeal Cert.KernelIdeal.Gen

variable (V : (c : Dev nD) → (b : Ref sig .tc) → Buf (Elt Ideal) ((c : Thread nD τ).loc b))

theorem index1 : ∀ t : Fin cfg1.N, win1_0.index t = ![(grid1.coords t 0).val, 0, 0, (grid1.coords t 1).val]
    ∧ win1_1.index t = ![(grid1.coords t 0).val, 0, (grid1.coords t 1).val] ∧ win1_2.index t = ![0, 0] ∧ win1_3.index t = ![0, 0]
    ∧ win1_4.index t = ![0, 0] ∧ win1_5.index t = ![0, 0] ∧ win1_6.index t = ![0, 0]
    ∧ win1_7.index t = ![(grid1.coords t 0).val, 0, (grid1.coords t 1).val]
    ∧ win1_8.index t = ![(grid1.coords t 0).val, 0, (grid1.coords t 1).val]
    ∧ win1_9.index t = ![(grid1.coords t 0).val, (grid1.coords t 1).val, 0, 0] :=
  (by decide +kernel : ∀ t : Fin grid1.N, _)

theorem block1_0 (c : Dev nD) (t : Fin cfg1.N) (k : Fin 20) (d : Fin 3) (r : Fin 1024) :
    iblk1 V c 0 t (ix4 0 k d r) = V c main_v3_0 (ix4 (grid1.coords t 0) k d (wide (grid1.coords t 1) r)) := by
  obtain ⟨e0, e1, e2, e3, e4, e5, e6, e7, e8, e9⟩ := index1 t
  blk_simp [iblk1]
  refine congrArg (V c main_v3_0) ?_
  blk_ext [e0, wide]

theorem block1_1 (c : Dev nD) (t : Fin cfg1.N) (d : Fin 3) (r : Fin 1024) :
    iblk1 V c 1 t (ix3 0 d r) = V c main_arg0 (ix3 (grid1.coords t 0) d (wide (grid1.coords t 1) r)) := by
  obtain ⟨e0, e1, e2, e3, e4, e5, e6, e7, e8, e9⟩ := index1 t
  blk_simp [iblk1]
  refine congrArg (V c main_arg0) ?_
  blk_ext [e1, wide]

theorem block1_2 (c : Dev nD) (t : Fin cfg1.N) (o : Fin 64) (d : Fin 3) : iblk1 V c 2 t (ix2 o d) = V c main_v0 (ix2 o d) := by
  obtain ⟨e0, e1, e2, e3, e4, e5, e6, e7, e8, e9⟩ := index1 t
  blk_simp [iblk1]
  refine congrArg (V c main_v0) ?_
  blk_ext [e2]

theorem block1_3 (c : Dev nD) (t : Fin cfg1.N) (o : Fin 64) (d : Fin 3) : iblk1 V c 3 t (ix2 o d) = V c main_v2 (ix2 o d) := by
  obtain ⟨e0, e1, e2, e3, e4, e5, e6, e7, e8, e9⟩ := index1 t
  blk_simp [iblk1]
  refine congrArg (V c main_v2) ?_
  blk_ext [e3]

theorem block1_4 (c : Dev nD) (t : Fin cfg1.N) (o : Fin 64) (d : Fin 64) : iblk1 V c 4 t (ix2 o d) = V c main_arg4 (ix2 o d) := by
  obtain ⟨e0, e1, e2, e3, e4, e5, e6, e7, e8, e9⟩ := index1 t
  blk_simp [iblk1]
  refine congrArg (V c main_arg4) ?_
  blk_ext [e4]

theorem block1_5 (c : Dev nD) (t : Fin cfg1.N) (o : Fin 64) (d : Fin 1) : iblk1 V c 5 t (ix2 o d) = V c main_v19 (ix2 o d) := by
  obtain ⟨e0, e1, e2, e3, e4, e5, e6, e7, e8, e9⟩ := index1 t
  blk_simp [iblk1]
  refine congrArg (V c main_v19) ?_
  blk_ext [e5]

theorem block1_6 (c : Dev nD) (t : Fin cfg1.N) (o : Fin 64) (d : Fin 1) : iblk1 V c 6 t (ix2 o d) = V c main_v26 (ix2 o d) := by
  obtain ⟨e0, e1, e2, e3, e4, e5, e6, e7, e8, e9⟩ := index1 t
  blk_simp [iblk1]
  refine congrArg (V c main_v26) ?_
  blk_ext [e6]

theorem place1_7 (t : Fin cfg1.N) (o : Fin 64) (r : Fin 1024) :
    (win1_7.blk t).view.emb (ix3 0 o r) = ix3 (grid1.coords t 0) o (wide (grid1.coords t 1) r) := by
  obtain ⟨e0, e1, e2, e3, e4, e5, e6, e7, e8, e9⟩ := index1 t
  blk_ext [e7, wide]

theorem place1_8 (t : Fin cfg1.N) (o : Fin 64) (r : Fin 1024) :
    (win1_8.blk t).view.emb (ix3 0 o r) = ix3 (grid1.coords t 0) o (wide (grid1.coords t 1) r) := by
  obtain ⟨e0, e1, e2, e3, e4, e5, e6, e7, e8, e9⟩ := index1 t
  blk_ext [e8, wide]

theorem place1_9 (t : Fin cfg1.N) (o : Fin 64) (z : Fin 2) :
    (win1_9.blk t).view.emb (ix4 0 0 o z) = ix4 (grid1.coords t 0) (grid1.coords t 1) o z := by
  obtain ⟨e0, e1, e2, e3, e4, e5, e6, e7, e8, e9⟩ := index1 t
  blk_ext [e9]

variable (nb : Fin 16 → ℕ → Fin 3 → Fin 4096 → ℝ) (a : Fin 16 → Fin 3 → Fin 4096 → ℝ) (wa wd : Fin 64 → Fin 3 → ℝ)
  (w2 : Fin 64 → Fin 64 → ℝ) (s1 t1 : Fin 64 → ℝ)

/-- The second layer's value before normalisation, over the whole cloud. -/
def second (b : Fin 16) (o : Fin 64) (n : Fin 4096) (k : ℕ) : ℝ :=
  ∑ e, w2 o e * leaky ((∑ d, wa e d * nb b k d n + ∑ d, wd e d * a b d n) * s1 e + t1 e)

/-- Its largest and its least value over the neighbours, as arrays. -/
def most : Vec Ideal S16x64x4096 .f32 := fun i =>
  (Finset.range 20).fold max (⊥ : EReal) (fun j => (second nb a wa wd w2 s1 t1 (i 0) (i 1) (i 2) j : EReal))
def least : Vec Ideal S16x64x4096 .f32 := fun i =>
  (Finset.range 20).fold min (⊤ : EReal) (fun j => (second nb a wa wd w2 s1 t1 (i 0) (i 1) (i 2) j : EReal))

/-- A tile's total of the second layer's values, and of their squares. -/
def sum1 (b : Fin 16) (t : Fin 4) (o : Fin 64) : ℝ := ∑ r, ∑ j ∈ Finset.range 20, second nb a wa wd w2 s1 t1 b o (wide t r) j
def sq1 (b : Fin 16) (t : Fin 4) (o : Fin 64) : ℝ := ∑ r, ∑ j ∈ Finset.range 20,
  second nb a wa wd w2 s1 t1 b o (wide t r) j * second nb a wa wd w2 s1 t1 b o (wide t r) j

/-- The tiles' totals, as an array. -/
def totals1 : Vec Ideal S16x4x64x2 .f32 := fun i =>
  if (i 3).val = 0 then ((sum1 nb a wa wd w2 s1 t1 (i 0) (i 1) (i 2) : ℝ) : EReal)
  else ((sq1 nb a wa wd w2 s1 t1 (i 0) (i 1) (i 2) : ℝ) : EReal)

variable (c : Dev nD) (hnb : ∀ b (k : Fin 20) d n, V c main_v3_0 (ix4 b k d n) = (nb b k d n : EReal))
  (ha : ∀ b d n, V c main_arg0 (ix3 b d n) = (a b d n : EReal)) (hwa : ∀ o d, V c main_v0 (ix2 o d) = (wa o d : EReal))
  (hwd : ∀ o d, V c main_v2 (ix2 o d) = (wd o d : EReal)) (hw2 : ∀ o e, V c main_arg4 (ix2 o e) = (w2 o e : EReal))
  (hs1 : ∀ o, V c main_v19 (ix2 o 0) = (s1 o : EReal)) (ht1 : ∀ o, V c main_v26 (ix2 o 0) = (t1 o : EReal))
include hnb ha hwa hwd hw2 hs1 ht1

/-- The loop's last state over the blocks of point `t` of the grid. -/
abbrev acc1At (t : Fin cfg1.N) : Acc :=
  acc1 (iblk1 V c 0 t) (iblk1 V c 1 t) (iblk1 V c 2 t) (iblk1 V c 3 t) (iblk1 V c 4 t) (iblk1 V c 5 t) (iblk1 V c 6 t) 20

/-- At point `t` of the grid: the tile's facts, from the arrays'. -/
theorem point1 (t : Fin cfg1.N) (o : Fin 64) (r : Fin 1024) :
    (acc1At V c t).max (ix3 0 o r) = (Finset.range 20).fold max (⊥ : EReal)
      (fun j => (second nb a wa wd w2 s1 t1 (grid1.coords t 0) o (wide (grid1.coords t 1) r) j : EReal))
    ∧ (acc1At V c t).min (ix3 0 o r) = (Finset.range 20).fold min (⊤ : EReal)
      (fun j => (second nb a wa wd w2 s1 t1 (grid1.coords t 0) o (wide (grid1.coords t 1) r) j : EReal))
    ∧ (acc1At V c t).sum (ix2 o r)
      = ((∑ j ∈ Finset.range 20, second nb a wa wd w2 s1 t1 (grid1.coords t 0) o (wide (grid1.coords t 1) r) j : ℝ) : EReal)
    ∧ (acc1At V c t).sq (ix2 o r)
      = ((∑ j ∈ Finset.range 20, second nb a wa wd w2 s1 t1 (grid1.coords t 0) o (wide (grid1.coords t 1) r) j
          * second nb a wa wd w2 s1 t1 (grid1.coords t 0) o (wide (grid1.coords t 1) r) j : ℝ) : EReal) :=
  acc1_apply (iblk1 V c 0 t) (iblk1 V c 1 t) (iblk1 V c 2 t) (iblk1 V c 3 t) (iblk1 V c 4 t) (iblk1 V c 5 t) (iblk1 V c 6 t)
    (fun k d r => nb (grid1.coords t 0) k d (wide (grid1.coords t 1) r)) (fun d r => a (grid1.coords t 0) d (wide (grid1.coords t 1) r))
    wa wd w2 s1 t1 (fun k d r => (block1_0 V c t k d r).trans (hnb _ _ _ _)) (fun d r => (block1_1 V c t d r).trans (ha _ _ _))
    (fun o d => (block1_2 V c t o d).trans (hwa _ _)) (fun o d => (block1_3 V c t o d).trans (hwd _ _))
    (fun o d => (block1_4 V c t o d).trans (hw2 _ _)) (fun o => (block1_5 V c t o 0).trans (hs1 _))
    (fun o => (block1_6 V c t o 0).trans (ht1 _)) 20 le_rfl o r

theorem final1_most : (dat1 V c).arrAt 7 cfg1.N = most nb a wa wd w2 s1 t1 := by
  refine (dat1 V c).arrAt_eq_of_covers 7 _ (by decide +kernel) fun t hf y => ?_
  blk_simp
  rw [after1_7]
  unfold outsAt1
  dsimp only
  idx_vars y
  obtain rfl : y0 = 0 := Subsingleton.elim _ _
  refine (congrFun (body1_max ..) _).trans ?_
  refine ((point1 V nb a wa wd w2 s1 t1 c hnb ha hwa hwd hw2 hs1 ht1 t y1 y2).1).trans ?_
  refine Eq.trans ?_ (congrArg (most nb a wa wd w2 s1 t1) (place1_7 t y1 y2)).symm
  rfl

theorem final1_least : (dat1 V c).arrAt 8 cfg1.N = least nb a wa wd w2 s1 t1 := by
  refine (dat1 V c).arrAt_eq_of_covers 8 _ (by decide +kernel) fun t hf y => ?_
  blk_simp
  rw [after1_8]
  unfold outsAt1
  dsimp only
  idx_vars y
  obtain rfl : y0 = 0 := Subsingleton.elim _ _
  refine (congrFun (body1_min ..) _).trans ?_
  refine ((point1 V nb a wa wd w2 s1 t1 c hnb ha hwa hwd hw2 hs1 ht1 t y1 y2).2.1).trans ?_
  refine Eq.trans ?_ (congrArg (least nb a wa wd w2 s1 t1) (place1_8 t y1 y2)).symm
  rfl

theorem final1_totals : (dat1 V c).arrAt 9 cfg1.N = totals1 nb a wa wd w2 s1 t1 := by
  refine (dat1 V c).arrAt_eq_of_covers 9 _ (by decide +kernel) fun t hf y => ?_
  blk_simp
  rw [after1_9]
  unfold outsAt1
  dsimp only
  idx_vars y
  obtain rfl : y0 = 0 := Subsingleton.elim _ _
  obtain rfl : y1 = 0 := Subsingleton.elim _ _
  refine (congrFun (body1_tot ..) _).trans ?_
  refine Eq.trans ?_ (congrArg (totals1 nb a wa wd w2 s1 t1) (place1_9 t y2 y3)).symm
  have h := point1 V nb a wa wd w2 s1 t1 c hnb ha hwa hwd hw2 hs1 ht1 t y2
  fin_cases y3
  · refine (totals1_apply _ _ y2).1.trans ?_
    refine (Finset.sum_congr rfl fun r _ => (h r).2.2.1).trans ?_
    exact (coe_sum _ _).symm
  · refine (totals1_apply _ _ y2).2.trans ?_
    refine (Finset.sum_congr rfl fun r _ => (h r).2.2.2).trans ?_
    exact (coe_sum _ _).symm

end Cert.EdgeConv
-- ==== Proof.Stats.lean ====
/- The normalization's two spellings: from the mean squared deviation, and from the sum and the sum of squares. -/
module

public import proofs.«01_k».proof.Proof.RefNorm

@[expose] public section
noncomputable section
namespace Cert.EdgeConv

/-- A channel's sum and sum of squares. -/
def total (h : Layer) (o : Fin 64) : ℝ := ∑ b, ∑ n, ∑ k, h b o n k

def totalSq (h : Layer) (o : Fin 64) : ℝ := ∑ b, ∑ n, ∑ k, h b o n k * h b o n k

theorem var_eq (h : Layer) (o : Fin 64) : var h o = avg (totalSq h o) - avg (total h o) * avg (total h o) := by
  have e : ∑ b, ∑ n, ∑ k, (h b o n k - mean h o) * (h b o n k - mean h o)
      = totalSq h o - 2 * mean h o * total h o + count * (mean h o * mean h o) := by
    have : ∀ b n k, (h b o n k - mean h o) * (h b o n k - mean h o)
        = h b o n k * h b o n k - 2 * mean h o * h b o n k + mean h o * mean h o := fun b n k => by ring
    simp only [this, Finset.sum_add_distrib, Finset.sum_sub_distrib, ← Finset.mul_sum, Finset.sum_const, Finset.card_univ,
      Fintype.card_fin, nsmul_eq_mul]
    unfold totalSq total count
    norm_num
    ring
  unfold var
  rw [e]
  have hm : total h o = count * mean h o := by
    unfold mean avg total count
    ring
  have hm' : avg (total h o) = mean h o := rfl
  rw [hm', hm]
  unfold avg count
  ring

theorem var_pos (h : Layer) (o : Fin 64) : 0 ≤ avg (totalSq h o) - avg (total h o) * avg (total h o) := by
  rw [← var_eq]
  exact var_nonneg h o

/-- The scale the kernel multiplies a channel by, and what it takes off. -/
def scale (h : Layer) (g : Fin 64 → ℝ) (o : Fin 64) : ℝ := g o * inv (total h o) (totalSq h o)

def offset (h : Layer) (g : Fin 64 → ℝ) (o : Fin 64) : ℝ := avg (total h o) * g o * inv (total h o) (totalSq h o)

theorem norm_eq (h : Layer) (g : Fin 64 → ℝ) (b : Fin 16) (o : Fin 64) (n : Fin 4096) (k : Fin 20) :
    norm h g b o n k = h b o n k * scale h g o - offset h g o := by
  unfold norm scale offset inv
  rw [var_eq, show mean h o = avg (total h o) from rfl, one_div]
  ring

end Cert.EdgeConv
-- ==== Proof.Sums.lean ====
/- The tiles' totals are the whole layer's, and the kernel's spellings of the two layers are the reference's. -/
module

public import proofs.«01_k».proof.Proof.Array0
public import proofs.«01_k».proof.Proof.Array1
public import proofs.«01_k».proof.Proof.Stats
public import proofs.«01_k».proof.Proof.Ref

@[expose] public section
noncomputable section
namespace Cert.EdgeConv

/-- A sum over the points is the sum over sixteen tiles of 256, or over four of 1024. -/
theorem sum_narrow (f : Fin 4096 → ℝ) : ∑ t, ∑ r, f (narrow t r) = ∑ n, f n := by
  rw [← Fintype.sum_prod_type' (f := fun t r => f (narrow t r))]
  refine Fintype.sum_equiv (finProdFinEquiv (m := 16) (n := 256)) _ _ fun p => congrArg f (Fin.ext ?_)
  show p.1.val * 256 + p.2.val = p.2.val + 256 * p.1.val
  omega

theorem sum_wide (f : Fin 4096 → ℝ) : ∑ t, ∑ r, f (wide t r) = ∑ n, f n := by
  rw [← Fintype.sum_prod_type' (f := fun t r => f (wide t r))]
  refine Fintype.sum_equiv (finProdFinEquiv (m := 4) (n := 1024)) _ _ fun p => congrArg f (Fin.ext ?_)
  show p.1.val * 1024 + p.2.val = p.2.val + 1024 * p.1.val
  omega

variable (a : Fin 16 → Fin 3 → Fin 4096 → ℝ) (w : Fin 64 → Fin 6 → ℝ)

/-- The first layer's weights as the host splits them: of the neighbour, and of the point. -/
def nbrW (o : Fin 64) (c : Fin 3) : ℝ := w o ⟨c.val, by omega⟩
def selfW (o : Fin 64) (c : Fin 3) : ℝ := w o ⟨3 + c.val, by omega⟩ - w o ⟨c.val, by omega⟩

/-- The kernel's first layer at a neighbour is the reference's, its difference multiplied out. -/
theorem hid_eq (b : Fin 16) (o : Fin 64) (n : Fin 4096) (k : Fin 20) :
    hid (a b) (a b) (nbrW w) (selfW w) o n (nearest a b n k.val) = pre1 a w b o n k := by
  unfold hid pre1 nbrW selfW
  rw [← Finset.sum_add_distrib, ← Finset.sum_add_distrib]
  exact Finset.sum_congr rfl fun c _ => by ring

theorem sum0_eq (o : Fin 64) : ∑ b, ∑ t, sum0 a (nbrW w) (selfW w) (nearest a) b t o = total (pre1 a w) o := by
  refine Finset.sum_congr rfl fun b _ => ?_
  refine (sum_narrow fun n => ∑ j ∈ Finset.range 20, hid (a b) (a b) (nbrW w) (selfW w) o n (nearest a b n j)).trans ?_
  refine Finset.sum_congr rfl fun n _ => ?_
  rw [Finset.sum_range]
  exact Finset.sum_congr rfl fun k _ => hid_eq a w b o n k

theorem sq0_eq (o : Fin 64) : ∑ b, ∑ t, sq0 a (nbrW w) (selfW w) (nearest a) b t o = totalSq (pre1 a w) o := by
  refine Finset.sum_congr rfl fun b _ => ?_
  refine (sum_narrow fun n => ∑ j ∈ Finset.range 20, hid (a b) (a b) (nbrW w) (selfW w) o n (nearest a b n j)
    * hid (a b) (a b) (nbrW w) (selfW w) o n (nearest a b n j)).trans ?_
  refine Finset.sum_congr rfl fun n _ => ?_
  rw [Finset.sum_range]
  exact Finset.sum_congr rfl fun k _ => by rw [hid_eq a w b o n k]

/-- The gathered coordinates the second call reads. -/
def gathered (b : Fin 16) (k : ℕ) (d : Fin 3) (n : Fin 4096) : ℝ := a b d (nearest a b n k)

variable (g B : Fin 64 → ℝ) (v : Fin 64 → Fin 64 → ℝ)

/-- The kernel's second layer at a neighbour. -/
abbrev deep : Fin 16 → Fin 64 → Fin 4096 → ℕ → ℝ :=
  second (gathered a) a (nbrW w) (selfW w) v (scale (pre1 a w) g) (fun e => B e - offset (pre1 a w) g e)

theorem deep_eq (b : Fin 16) (o : Fin 64) (n : Fin 4096) (k : Fin 20) :
    deep a w g B v b o n k.val = pre2 (pre1 a w) g B v b o n k := by
  unfold deep second pre2
  refine Finset.sum_congr rfl fun e _ => ?_
  refine congrArg (fun z => v o e * leaky z) ?_
  rw [norm_eq, ← hid_eq]
  unfold hid gathered
  ring

theorem sum1_eq (o : Fin 64) : ∑ b, ∑ t, sum1 (gathered a) a (nbrW w) (selfW w) v (scale (pre1 a w) g)
    (fun e => B e - offset (pre1 a w) g e) b t o = total (pre2 (pre1 a w) g B v) o := by
  refine Finset.sum_congr rfl fun b _ => ?_
  refine (sum_wide fun n => ∑ j ∈ Finset.range 20, deep a w g B v b o n j).trans ?_
  refine Finset.sum_congr rfl fun n _ => ?_
  rw [Finset.sum_range]
  exact Finset.sum_congr rfl fun k _ => deep_eq a w g B v b o n k

theorem sq1_eq (o : Fin 64) : ∑ b, ∑ t, sq1 (gathered a) a (nbrW w) (selfW w) v (scale (pre1 a w) g)
    (fun e => B e - offset (pre1 a w) g e) b t o = totalSq (pre2 (pre1 a w) g B v) o := by
  refine Finset.sum_congr rfl fun b _ => ?_
  refine (sum_wide fun n => ∑ j ∈ Finset.range 20, deep a w g B v b o n j * deep a w g B v b o n j).trans ?_
  refine Finset.sum_congr rfl fun n _ => ?_
  rw [Finset.sum_range]
  exact Finset.sum_congr rfl fun k _ => by rw [deep_eq a w g B v b o n k]

end Cert.EdgeConv
-- ==== Proof.Greatest.lean ====
/- The greatest of the normalized values: the leaky step of an affine map is monotone one way or the other, so it is
   taken at the greatest or the least value, as the scale's sign says. -/
module

public import proofs.«01_k».proof.Proof.RefNorm

@[expose] public section
noncomputable section
namespace Cert.EdgeConv

theorem leakyE_mono : Monotone leakyE := by
  have hs : (0 : EReal) ≤ (slope : EReal) := EReal.coe_nonneg.mpr (by unfold slope; norm_num)
  intro x y hxy
  unfold leakyE
  by_cases hy : 0 ≤ y
  · rw [if_pos hy]
    by_cases hx : 0 ≤ x
    · rw [if_pos hx]; exact hxy
    · rw [if_neg hx]
      refine le_trans ?_ hy
      exact mul_nonpos_of_nonneg_of_nonpos hs (not_le.mp hx).le
  · rw [if_neg hy, if_neg (fun hx => hy (hx.trans hxy))]
    exact mul_le_mul_of_nonneg_left hxy hs

/-- The greatest of twenty numbers is one of them, and the others are at most it. -/
theorem fold_max_attained (z : ℕ → ℝ) : ∃ k : Fin 20, (Finset.range 20).fold max (⊥ : EReal) (fun j => (z j : EReal)) = (z k : EReal)
    ∧ ∀ j : Fin 20, z j ≤ z k := by
  obtain ⟨k, hk, hmax⟩ := Finset.exists_max_image (Finset.range 20) z ⟨0, by simp⟩
  refine ⟨⟨k, Finset.mem_range.mp hk⟩, le_antisymm ?_ ?_, fun j => hmax j (Finset.mem_range.mpr j.isLt)⟩
  · rw [Finset.fold_max_le]
    exact ⟨bot_le, fun j hj => EReal.coe_le_coe_iff.mpr (hmax j hj)⟩
  · rw [Finset.le_fold_max]
    exact Or.inr ⟨k, hk, le_refl _⟩

theorem fold_min_attained (z : ℕ → ℝ) : ∃ k : Fin 20, (Finset.range 20).fold min (⊤ : EReal) (fun j => (z j : EReal)) = (z k : EReal)
    ∧ ∀ j : Fin 20, z k ≤ z j := by
  obtain ⟨k, hk, hmin⟩ := Finset.exists_min_image (Finset.range 20) z ⟨0, by simp⟩
  refine ⟨⟨k, Finset.mem_range.mp hk⟩, le_antisymm ?_ ?_, fun j => hmin j (Finset.mem_range.mpr j.isLt)⟩
  · rw [Finset.fold_min_le]
    exact Or.inr ⟨k, hk, le_refl _⟩
  · rw [Finset.le_fold_min]
    exact ⟨le_top, fun j hj => EReal.coe_le_coe_iff.mpr (hmin j hj)⟩

/-- A value that the leaky step takes to its greatest is what the reference's maximum is. -/
theorem fold_leaky (y : Fin 20 → ℝ) (B : EReal) (k : Fin 20) (hk : ∀ j, y j ≤ y k) :
    Finset.univ.fold max ⊥ (fun j : Fin 20 => leakyE ((y j : EReal) + B)) = leakyE ((y k : EReal) + B) := by
  apply le_antisymm
  · rw [Finset.fold_max_le]
    exact ⟨bot_le, fun j _ => leakyE_mono (add_le_add_left (EReal.coe_le_coe_iff.mpr (hk j)) B)⟩
  · rw [Finset.le_fold_max]
    exact Or.inr ⟨k, Finset.mem_univ _, le_refl _⟩

/-- What the kernel writes from the greatest and least values is the reference's maximum. -/
theorem greatest (z : ℕ → ℝ) (s u : ℝ) (B : EReal) :
    leakyE ((s : EReal) * (if (0 : EReal) ≤ (s : EReal) then (Finset.range 20).fold max ⊥ (fun j => (z j : EReal))
        else (Finset.range 20).fold min ⊤ (fun j => (z j : EReal))) + (B - (u : EReal)))
      = Finset.univ.fold max ⊥ (fun j : Fin 20 => leakyE (((z j * s - u : ℝ) : EReal) + B)) := by
  have key : ∀ x : ℝ, (s : EReal) * (x : EReal) + (B - (u : EReal)) = ((x * s - u : ℝ) : EReal) + B := by
    intro x
    rw [← EReal.coe_mul, sub_eq_add_neg, add_comm B, ← add_assoc, ← EReal.coe_neg, ← EReal.coe_add]
    congr 2
    ring
  by_cases hs : 0 ≤ s
  · rw [if_pos (by exact_mod_cast hs)]
    obtain ⟨k, e, hk⟩ := fold_max_attained z
    rw [e, key, fold_leaky (fun j : Fin 20 => z j * s - u) B k]
    intro j
    have := mul_le_mul_of_nonneg_right (hk j) hs
    linarith
  · rw [if_neg (by exact_mod_cast hs)]
    obtain ⟨k, e, hk⟩ := fold_min_attained z
    rw [e, key, fold_leaky (fun j : Fin 20 => z j * s - u) B k]
    intro j
    have := mul_le_mul_of_nonpos_right (hk j) (not_le.mp hs).le
    linarith

end Cert.EdgeConv
-- ==== Proof.Chain.lean ====
/- The kernel's last array, followed through its three calls and the host code between them. -/
module

public import proofs.«01_k».proof.Proof.Sums
public import proofs.«01_k».proof.Proof.Host
public import proofs.«01_k».proof.Proof.Greatest

@[expose] public section
noncomputable section
namespace Cert.EdgeConv
open Idealize.ShloMosaic Idealize.ShloMosaic.TcCoe Cert.KernelIdeal Cert.KernelIdeal.Gen

variable (m : (ℓ : Loc nD τ sig) → Buf (Elt Ideal) ℓ) (ρ : Dev nD → PrngReg) (c : Dev nD)
  (a : Fin 16 → Fin 3 → Fin 4096 → ℝ) (w : Fin 64 → Fin 6 → ℝ) (g B g' : Fin 64 → ℝ) (v : Fin 64 → Fin 64 → ℝ)
  (B' : Fin 64 → EReal)

/-- What the chain asks of the arguments: real numbers, the last shift apart, and a choice of nearest points. -/
structure Given : Prop where
  points : ∀ b d n, m ((c : Thread nD τ).loc main_arg0) (ix3 b d n) = (a b d n : EReal)
  weights : ∀ o i, m ((c : Thread nD τ).loc main_arg1) (ix2 o i) = (w o i : EReal)
  scales : ∀ o, m ((c : Thread nD τ).loc main_arg2) (ix1 o) = (g o : EReal)
  shifts : ∀ o, m ((c : Thread nD τ).loc main_arg3) (ix1 o) = (B o : EReal)
  weights' : ∀ o e, m ((c : Thread nD τ).loc main_arg4) (ix2 o e) = (v o e : EReal)
  scales' : ∀ o, m ((c : Thread nD τ).loc main_arg5) (ix1 o) = (g' o : EReal)
  shifts' : ∀ o, m ((c : Thread nD τ).loc main_arg6) (ix1 o) = B' o
  nearest : ∀ b n, Picks (key0 (a b) (a b) n) (nearest a b n)

variable (G : Given m c a w g B g' v B')
include G

/-! ## Up to the first call -/

theorem in0_points (b : Fin 16) (d : Fin 3) (n : Fin 4096) : V1 m ρ c main_arg0 (ix3 b d n) = (a b d n : EReal) :=
  (congrFun (W1_args m ρ c main_arg0 (by decide)) _).trans (G.points b d n)

theorem in0_nbr (o : Fin 64) (d : Fin 3) : V1 m ρ c main_v0 (ix2 o d) = (nbrW w o d : EReal) :=
  w1a_read (W0 m ρ c) w G.weights o d

theorem in0_self (o : Fin 64) (d : Fin 3) : V1 m ρ c main_v2 (ix2 o d) = (selfW w o d : EReal) :=
  w1d_read (W0 m ρ c) w G.weights o d

theorem out0_near : W2 m ρ c (Proc.devRef .tc main_v3_0) = near0 a (nearest a) :=
  (W2_arr m ρ c 4).trans (final0_near (V1 m ρ) a (nbrW w) (selfW w) (nearest a) c (in0_points m ρ c a w g B g' v B' G)
    (in0_nbr m ρ c a w g B g' v B' G) (in0_self m ρ c a w g B g' v B' G) G.nearest)

theorem out0_totals : W2 m ρ c (Proc.devRef .tc main_v3_1) = totals0 a (nbrW w) (selfW w) (nearest a) :=
  (W2_arr m ρ c 5).trans (final0_totals (V1 m ρ) a (nbrW w) (selfW w) (nearest a) c (in0_points m ρ c a w g B g' v B' G)
    (in0_nbr m ρ c a w g B g' v B' G) (in0_self m ρ c a w g B g' v B' G) G.nearest)

/-! ## Up to the second call -/

theorem var0 (o : Fin 64) : 0 ≤ avg (∑ b, ∑ t, sq0 a (nbrW w) (selfW w) (nearest a) b t o)
    - avg (∑ b, ∑ t, sum0 a (nbrW w) (selfW w) (nearest a) b t o) * avg (∑ b, ∑ t, sum0 a (nbrW w) (selfW w) (nearest a) b t o) := by
  rw [sum0_eq, sq0_eq]
  exact var_pos _ o

theorem in1_near (b : Fin 16) (k : Fin 20) (d : Fin 3) (n : Fin 4096) :
    V3 m ρ c main_v3_0 (ix4 b k d n) = (gathered a b k d n : EReal) :=
  congrFun ((W3_of m ρ c main_v3_0 (by decide)).trans (out0_near m ρ c a w g B g' v B' G)) _

theorem in1_points (b : Fin 16) (d : Fin 3) (n : Fin 4096) : V3 m ρ c main_arg0 (ix3 b d n) = (a b d n : EReal) :=
  (congrFun (W3_args m ρ c main_arg0 (by decide)) _).trans (G.points b d n)

theorem in1_nbr (o : Fin 64) (d : Fin 3) : V3 m ρ c main_v0 (ix2 o d) = (nbrW w o d : EReal) :=
  (congrFun ((W3_of m ρ c main_v0 (by decide)).trans (W2_of m ρ c main_v0 (by decide))) _).trans
    (in0_nbr m ρ c a w g B g' v B' G o d)

theorem in1_self (o : Fin 64) (d : Fin 3) : V3 m ρ c main_v2 (ix2 o d) = (selfW w o d : EReal) :=
  (congrFun ((W3_of m ρ c main_v2 (by decide)).trans (W2_of m ρ c main_v2 (by decide))) _).trans
    (in0_self m ρ c a w g B g' v B' G o d)

theorem in1_weights (o e : Fin 64) : V3 m ρ c main_arg4 (ix2 o e) = (v o e : EReal) :=
  (congrFun (W3_args m ρ c main_arg4 (by decide)) _).trans (G.weights' o e)

theorem in1_scale (o : Fin 64) : V3 m ρ c main_v19 (ix2 o 0) = (scale (pre1 a w) g o : EReal) := by
  refine (s1_read (W2 m ρ c) (sum0 a (nbrW w) (selfW w) (nearest a)) (sq0 a (nbrW w) (selfW w) (nearest a)) g
    (fun b t o => congrFun (out0_totals m ρ c a w g B g' v B' G) _)
    (fun b t o => congrFun (out0_totals m ρ c a w g B g' v B' G) _)
    (fun o => (congrFun (W2_args m ρ c main_arg2 (by decide)) _).trans (G.scales o)) (var0 m c a w g B g' v B' G) o).trans ?_
  rw [sum0_eq, sq0_eq]
  rfl

theorem in1_shift (o : Fin 64) : V3 m ρ c main_v26 (ix2 o 0) = ((B o - offset (pre1 a w) g o : ℝ) : EReal) := by
  refine (t1_read (W2 m ρ c) (sum0 a (nbrW w) (selfW w) (nearest a)) (sq0 a (nbrW w) (selfW w) (nearest a)) g
    (fun b t o => congrFun (out0_totals m ρ c a w g B g' v B' G) _)
    (fun b t o => congrFun (out0_totals m ρ c a w g B g' v B' G) _)
    (fun o => (congrFun (W2_args m ρ c main_arg2 (by decide)) _).trans (G.scales o)) (var0 m c a w g B g' v B' G)
    (fun o => (B o : EReal)) (fun o => (congrFun (W2_args m ρ c main_arg3 (by decide)) _).trans (G.shifts o)) o).trans ?_
  rw [sum0_eq, sq0_eq, EReal.coe_sub]
  rfl

end Cert.EdgeConv
-- ==== Proof.Value.lean ====
/- The kernel's result array, entry by entry: the greatest, over the nearest points, of the second layer's step. -/
module

public import proofs.«01_k».proof.Proof.Chain

@[expose] public section
noncomputable section
namespace Cert.EdgeConv
open Idealize.ShloMosaic Idealize.ShloMosaic.TcCoe Cert.KernelIdeal Cert.KernelIdeal.Gen

/-- The last call's formula where its four arrays are known at an entry. -/
theorem last_value (S T : Vec Ideal S64x1 .f32) (hi lo : Vec Ideal S16x64x4096 .f32) (b : Fin 16) (o : Fin 64) (n : Fin 4096)
    (z : ℕ → ℝ) (s u : ℝ) (y : EReal) (hs : S (ix2 o 0) = (s : EReal)) (ht : T (ix2 o 0) = y - (u : EReal))
    (hh : hi (ix3 b o n) = (Finset.range 20).fold max (⊥ : EReal) (fun j => (z j : EReal)))
    (hl : lo (ix3 b o n) = (Finset.range 20).fold min (⊤ : EReal) (fun j => (z j : EReal))) :
    last S T hi lo (ix3 b o n) = Finset.univ.fold max (⊥ : EReal) (fun j : Fin 20 => leakyE (((z j * s - u : ℝ) : EReal) + y)) := by
  show leakyE (S (ix2 o 0) * (if 0 ≤ S (ix2 o 0) then hi (ix3 b o n) else lo (ix3 b o n)) + T (ix2 o 0)) = _
  rw [hs, ht, hh, hl]
  exact greatest z s u y

variable (m : (ℓ : Loc nD τ sig) → Buf (Elt Ideal) ℓ) (ρ : Dev nD → PrngReg) (c : Dev nD)
  (a : Fin 16 → Fin 3 → Fin 4096 → ℝ) (w : Fin 64 → Fin 6 → ℝ) (g B g' : Fin 64 → ℝ) (v : Fin 64 → Fin 64 → ℝ)
  (B' : Fin 64 → EReal) (G : Given m c a w g B g' v B')

/-- The second call's arrays, at the arrays it is given. -/
abbrev mostOf : Vec Ideal S16x64x4096 .f32 := most (gathered a) a (nbrW w) (selfW w) v (scale (pre1 a w) g) (fun e => B e - offset (pre1 a w) g e)
abbrev leastOf : Vec Ideal S16x64x4096 .f32 := least (gathered a) a (nbrW w) (selfW w) v (scale (pre1 a w) g) (fun e => B e - offset (pre1 a w) g e)
abbrev sumOf : Fin 16 → Fin 4 → Fin 64 → ℝ := sum1 (gathered a) a (nbrW w) (selfW w) v (scale (pre1 a w) g) (fun e => B e - offset (pre1 a w) g e)
abbrev sqOf : Fin 16 → Fin 4 → Fin 64 → ℝ := sq1 (gathered a) a (nbrW w) (selfW w) v (scale (pre1 a w) g) (fun e => B e - offset (pre1 a w) g e)

include G

theorem out1_most : W4 m ρ c (Proc.devRef .tc main_v27_0) = mostOf a w g B v :=
  (W4_arr m ρ c 7).trans (final1_most (V3 m ρ) (gathered a) a (nbrW w) (selfW w) v (scale (pre1 a w) g) (fun e => B e - offset (pre1 a w) g e) c
    (in1_near m ρ c a w g B g' v B' G) (in1_points m ρ c a w g B g' v B' G) (in1_nbr m ρ c a w g B g' v B' G) (in1_self m ρ c a w g B g' v B' G) (in1_weights m ρ c a w g B g' v B' G) (in1_scale m ρ c a w g B g' v B' G) (in1_shift m ρ c a w g B g' v B' G))

theorem out1_least : W4 m ρ c (Proc.devRef .tc main_v27_1) = leastOf a w g B v :=
  (W4_arr m ρ c 8).trans (final1_least (V3 m ρ) (gathered a) a (nbrW w) (selfW w) v (scale (pre1 a w) g) (fun e => B e - offset (pre1 a w) g e) c
    (in1_near m ρ c a w g B g' v B' G) (in1_points m ρ c a w g B g' v B' G) (in1_nbr m ρ c a w g B g' v B' G) (in1_self m ρ c a w g B g' v B' G) (in1_weights m ρ c a w g B g' v B' G) (in1_scale m ρ c a w g B g' v B' G) (in1_shift m ρ c a w g B g' v B' G))

theorem out1_totals : W4 m ρ c (Proc.devRef .tc main_v27_2) = totals1 (gathered a) a (nbrW w) (selfW w) v (scale (pre1 a w) g) (fun e => B e - offset (pre1 a w) g e) :=
  (W4_arr m ρ c 9).trans (final1_totals (V3 m ρ) (gathered a) a (nbrW w) (selfW w) v (scale (pre1 a w) g) (fun e => B e - offset (pre1 a w) g e) c
    (in1_near m ρ c a w g B g' v B' G) (in1_points m ρ c a w g B g' v B' G) (in1_nbr m ρ c a w g B g' v B' G) (in1_self m ρ c a w g B g' v B' G) (in1_weights m ρ c a w g B g' v B' G) (in1_scale m ρ c a w g B g' v B' G) (in1_shift m ρ c a w g B g' v B' G))

theorem var1 (o : Fin 64) : 0 ≤ avg (∑ b, ∑ t, sqOf a w g B v b t o)
    - avg (∑ b, ∑ t, sumOf a w g B v b t o) * avg (∑ b, ∑ t, sumOf a w g B v b t o) := by
  rw [sum1_eq, sq1_eq]
  exact var_pos _ o

theorem in2_scale (o : Fin 64) : V5 m ρ c main_v43 (ix2 o 0) = (scale (pre2 (pre1 a w) g B v) g' o : EReal) := by
  refine (s2_read (W4 m ρ c) (sumOf a w g B v) (sqOf a w g B v) g'
    (fun b t o => congrFun (out1_totals m ρ c a w g B g' v B' G) _)
    (fun b t o => congrFun (out1_totals m ρ c a w g B g' v B' G) _)
    (fun o => (congrFun (W4_args m ρ c main_arg5 (by decide)) _).trans (G.scales' o)) (var1 m c a w g B g' v B' G) o).trans ?_
  rw [sum1_eq, sq1_eq]
  rfl

theorem in2_shift (o : Fin 64) : V5 m ρ c main_v50 (ix2 o 0) = B' o - (offset (pre2 (pre1 a w) g B v) g' o : EReal) := by
  refine (t2_read (W4 m ρ c) (sumOf a w g B v) (sqOf a w g B v) g'
    (fun b t o => congrFun (out1_totals m ρ c a w g B g' v B' G) _)
    (fun b t o => congrFun (out1_totals m ρ c a w g B g' v B' G) _)
    (fun o => (congrFun (W4_args m ρ c main_arg5 (by decide)) _).trans (G.scales' o)) (var1 m c a w g B g' v B' G)
    B' (fun o => (congrFun (W4_args m ρ c main_arg6 (by decide)) _).trans (G.shifts' o)) o).trans ?_
  rw [sum1_eq, sq1_eq]
  rfl

theorem in2_most : V5 m ρ c main_v27_0 = mostOf a w g B v :=
  (W5_of m ρ c main_v27_0 (by decide)).trans (out1_most m ρ c a w g B g' v B' G)

theorem in2_least : V5 m ρ c main_v27_1 = leastOf a w g B v :=
  (W5_of m ρ c main_v27_1 (by decide)).trans (out1_least m ρ c a w g B g' v B' G)

/-- The kernel's result at an entry. -/
theorem kernel_value (b : Fin 16) (o : Fin 64) (n : Fin 4096) : W6 m ρ c (Proc.devRef .tc main_v51) (ix3 b o n)
    = Finset.univ.fold max (⊥ : EReal) (fun k : Fin 20 => leakyE ((norm (pre2 (pre1 a w) g B v) g' b o n k : EReal) + B' o)) := by
  refine (congrFun ((W6_arr m ρ c 4).trans (final2 (V5 m ρ) c)) _).trans ?_
  refine (last_value _ _ _ _ b o n (deep a w g B v b o n) _ _ (B' o) (in2_scale m ρ c a w g B g' v B' G o)
    (in2_shift m ρ c a w g B g' v B' G o) (congrFun (in2_most m ρ c a w g B g' v B' G) _)
    (congrFun (in2_least m ρ c a w g B g' v B' G) _)).trans ?_
  refine congrArg (fun f : Fin 20 → EReal => Finset.univ.fold max (⊥ : EReal) f) ?_
  funext k
  rw [norm_eq, deep_eq]

end Cert.EdgeConv
-- ==== Proof.Equal.lean ====
/- The kernel's result array is the reference's function of the same arguments. -/
module

public import proofs.«01_k».proof.Defs
public import proofs.«01_k».proof.Proof.Pre
public import proofs.«01_k».proof.Proof.Value
public import proofs.«01_k».proof.Proof.RefNorm

@[expose] public section
noncomputable section
namespace Cert.EdgeConv
open Idealize.ShloMosaic Idealize.ShloMosaic.TcCoe Cert.KernelIdeal Cert.KernelIdeal.Gen

/-- The side conditions of the precondition's operations. -/
theorem pre_facts : Cert.Pre_finite_and_no_tie.Facts := by constructor <;> decide

variable (m : (ℓ : Loc nD τ sig) → Buf (Elt Ideal) ℓ) (ρ : Dev nD → PrngReg) (c : Dev nD)

/-- The arguments as arrays over the numbers. -/
abbrev arr0 : FVec Ideal S16x3x4096 .f32 := m ((c : Thread nD τ).loc main_arg0)
abbrev arr1 : FVec Ideal S64x6 .f32 := m ((c : Thread nD τ).loc main_arg1)
abbrev arr2 : FVec Ideal S64 .f32 := m ((c : Thread nD τ).loc main_arg2)
abbrev arr3 : FVec Ideal S64 .f32 := m ((c : Thread nD τ).loc main_arg3)
abbrev arr4 : FVec Ideal S64x64 .f32 := m ((c : Thread nD τ).loc main_arg4)
abbrev arr5 : FVec Ideal S64 .f32 := m ((c : Thread nD τ).loc main_arg5)
abbrev arr6 : FVec Ideal S64 .f32 := m ((c : Thread nD τ).loc main_arg6)

/-- Their real numbers. -/
abbrev pts (b : Fin 16) (d : Fin 3) (n : Fin 4096) : ℝ := EReal.toReal (arr0 m c (ix3 b d n))
abbrev wts (o : Fin 64) (i : Fin 6) : ℝ := EReal.toReal (arr1 m c (ix2 o i))
abbrev scl (o : Fin 64) : ℝ := EReal.toReal (arr2 m c (ix1 o))
abbrev shf (o : Fin 64) : ℝ := EReal.toReal (arr3 m c (ix1 o))
abbrev wts' (o e : Fin 64) : ℝ := EReal.toReal (arr4 m c (ix2 o e))
abbrev scl' (o : Fin 64) : ℝ := EReal.toReal (arr5 m c (ix1 o))
abbrev shf' (o : Fin 64) : EReal := arr6 m c (ix1 o)

theorem given_of_pre (h : Cert.Pre_KernelIdeal_finite_and_no_tie (hPre_finite_and_no_tie := pre_facts) m) :
    Given m c (pts m c) (wts m c) (scl m c) (shf m c) (scl' m c) (wts' m c) (shf' m c) := by
  letI := pre_facts
  obtain ⟨h0, h1, h2, h3, h4, h5, h6⟩ := h c
  have ha : ∀ b d n, arr0 m c (ix3 b d n) = (pts m c b d n : EReal) := fun b d n => real0 _ _ _ _ _ _ _ h1 (ix3 b d n)
  exact ⟨ha, fun o i => real1 _ _ _ _ _ _ _ h2 (ix2 o i), fun o => real2 _ _ _ _ _ _ _ h3 (ix1 o),
    fun o => real3 _ _ _ _ _ _ _ h4 (ix1 o), fun o e => real4 _ _ _ _ _ _ _ h5 (ix2 o e),
    fun o => real5 _ _ _ _ _ _ _ h6 (ix1 o), fun _ => rfl, fun b n => nearest_picks _ _ _ _ _ _ _ h0 (pts m c) ha b n⟩

/-- The reference's function of the arguments. -/
abbrev wanted : FVec Ideal S16x64x4096 .f32 :=
  Cert.ReferenceIdeal.Read.val_main_v87 (F := Ideal) (arr0 m c) (arr1 m c) (arr2 m c) (arr3 m c) (arr4 m c) (arr5 m c) (arr6 m c)

theorem wanted_value (G : Given m c (pts m c) (wts m c) (scl m c) (shf m c) (scl' m c) (wts' m c) (shf' m c))
    (b : Fin 16) (o : Fin 64) (n : Fin 4096) : wanted m c (ix3 b o n)
      = Finset.univ.fold max (⊥ : EReal) (fun k : Fin 20 => leakyE
        ((norm (pre2 (pre1 (pts m c) (wts m c)) (scl m c) (shf m c) (wts' m c)) (scl' m c) b o n k : EReal) + shf' m c o)) :=
  result_read (arr0 m c) (arr1 m c) (arr2 m c) (arr3 m c) (arr4 m c) (arr5 m c) (arr6 m c)
    (pre2 (pre1 (pts m c) (wts m c)) (scl m c) (shf m c) (wts' m c))
    (pre2_read (arr0 m c) (arr1 m c) (arr2 m c) (arr3 m c) (pre1 (pts m c) (wts m c))
      (pre1_read (arr0 m c) (arr1 m c) (pts m c) (wts m c) G.points G.weights) (scl m c) (shf m c) G.scales G.shifts
      (arr4 m c) (wts' m c) G.weights')
    (scl' m c) (shf' m c) G.scales' G.shifts' b o n

theorem kernel_eq (h : Cert.Pre_KernelIdeal_finite_and_no_tie (hPre_finite_and_no_tie := pre_facts) m) :
    W6 m ρ c (Proc.devRef .tc main_v51) = wanted m c := by
  have G := given_of_pre m c h
  funext i
  idx_vars i
  exact (kernel_value m ρ c _ _ _ _ _ _ _ G i0 i1 i2).trans (wanted_value m c G i0 i1 i2).symm

end Cert.EdgeConv
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Own.Kernel.Launch
public import proofs.«01_k».proof.Proof.Gen.Kernel.Points
public import proofs.«01_k».proof.Proof.Gen.Own.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.Own.KernelIdeal.Launch
public import proofs.«01_k».proof.Proof.Gen.KernelIdeal.Points
public import proofs.«01_k».proof.Proof.Gen.Own.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference's frame: its run leaves the arguments as launched, and it declares no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

section Equal
open Cert.KernelIdeal.Gen Cert.EdgeConv

/-- The reference's function of equal arguments is equal. -/
theorem wanted_congr (m : (ℓ : Loc Cert.KernelIdeal.nD Cert.KernelIdeal.τ Cert.KernelIdeal.sig) → Buf (Elt Ideal) ℓ)
    (c : Dev Cert.KernelIdeal.nD) (x0 : FVec Ideal Cert.KernelIdeal.S16x3x4096 .f32) (x1 : FVec Ideal Cert.KernelIdeal.S64x6 .f32)
    (x2 x3 : FVec Ideal Cert.KernelIdeal.S64 .f32) (x4 : FVec Ideal Cert.KernelIdeal.S64x64 .f32)
    (x5 x6 : FVec Ideal Cert.KernelIdeal.S64 .f32)
    (h : x0 = arr0 m c ∧ x1 = arr1 m c ∧ x2 = arr2 m c ∧ x3 = arr3 m c ∧ x4 = arr4 m c ∧ x5 = arr5 m c ∧ x6 = arr6 m c) :
    Cert.ReferenceIdeal.Read.val_main_v87 (F := Ideal) x0 x1 x2 x3 x4 x5 x6 = wanted m c := by
  obtain ⟨rfl, rfl, rfl, rfl, rfl, rfl, rfl⟩ := h
  rfl

/-- Kernel and reference end with equal results: both with the reference's function of the arguments. -/
theorem equal : Cert.algebraic_KernelIdeal_ReferenceIdeal_pre_finite_and_no_tie (hKernelIdeal := Cert.KernelIdeal.Gen.facts)
    (hReferenceIdeal := Cert.ReferenceIdeal.Gen.facts) (hPre_finite_and_no_tie := pre_facts) := fun m g m' g' hpre hargs =>
  ⟨fun c => wanted m c,
    (θ_run Cert.KernelIdeal.defs _ _).mono (fun r hr c =>
      ⟨(hr c _ (mem_uc Cert.KernelIdeal.main_v51 (by decide))).trans (kernel_eq m g c hpre),
      (hr c _ (mem_uc Cert.KernelIdeal.main_arg0 (by decide))).trans (W6_args m g c Cert.KernelIdeal.main_arg0 (by decide)),
      (hr c _ (mem_uc Cert.KernelIdeal.main_arg1 (by decide))).trans (W6_args m g c Cert.KernelIdeal.main_arg1 (by decide)),
      (hr c _ (mem_uc Cert.KernelIdeal.main_arg2 (by decide))).trans (W6_args m g c Cert.KernelIdeal.main_arg2 (by decide)),
      (hr c _ (mem_uc Cert.KernelIdeal.main_arg3 (by decide))).trans (W6_args m g c Cert.KernelIdeal.main_arg3 (by decide)),
      (hr c _ (mem_uc Cert.KernelIdeal.main_arg4 (by decide))).trans (W6_args m g c Cert.KernelIdeal.main_arg4 (by decide)),
      (hr c _ (mem_uc Cert.KernelIdeal.main_arg5 (by decide))).trans (W6_args m g c Cert.KernelIdeal.main_arg5 (by decide)),
      (hr c _ (mem_uc Cert.KernelIdeal.main_arg6 (by decide))).trans (W6_args m g c Cert.KernelIdeal.main_arg6 (by decide))⟩)
      (run_all m g),
    (θ_run Cert.ReferenceIdeal.defs _ _).mono (fun r hr c =>
      ⟨((hr c).1.trans (Cert.ReferenceIdeal.Read.val_main_v87_eq (StableHlo.launchContents m' c))).trans
        (wanted_congr m c _ _ _ _ _ _ _ (hargs c)), (hr c).2⟩)
      (Cert.ReferenceIdeal.Value.run m' g')⟩

end Equal

/-- The three frames, the (empty) record of rewrites and the equality of results. -/
theorem claim : Cert.Claim := ⟨Cert.Kernel.Gen.facts, Cert.KernelIdeal.Gen.facts, Cert.ReferenceIdeal.Gen.facts,
  Cert.EdgeConv.pre_facts, fun m ρ _ => Cert.Kernel.Gen.frame m ρ, fun m ρ _ => Cert.KernelIdeal.Gen.frame m ρ,
  fun m ρ _ => Cert.KernelIdeal.Gen.frame m ρ, reference_frame, fun m ρ _ => reference_frame m ρ trivial, trivial, equal⟩

end Cert.Proof

end
